-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S7x128x384 : Shape := ⟨3, ![7, 128, 384]⟩
abbrev S7x128x256 : Shape := ⟨3, ![7, 128, 256]⟩
abbrev S3x7 : Shape := ⟨2, ![3, 7]⟩
abbrev S_ : Shape := ⟨0, ![]⟩
abbrev S128x256 : Shape := ⟨2, ![128, 256]⟩
abbrev S1x128x256 : Shape := ⟨3, ![1, 128, 256]⟩
abbrev S1x1 : Shape := ⟨2, ![1, 1]⟩
abbrev S128x384 : Shape := ⟨2, ![128, 384]⟩
abbrev S1x128x384 : Shape := ⟨3, ![1, 128, 384]⟩

abbrev nBuf : Space → Nat
  | .hbm => 3
  | .vmem => 10
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S128x1024, .f32⟩
  | .local _ .vmem, ⟨0, _⟩ => ⟨S1024x128, .bf16⟩
  | .local _ .vmem, ⟨1, _⟩ => ⟨S128x1024, .bf16⟩
  | .local _ .vmem, ⟨2, _⟩ => ⟨S128x1024, .f32⟩
  | .local _ .vmem, ⟨3, _⟩ => ⟨S1024x1024, .bf16⟩
  | .local _ .vmem, ⟨4, _⟩ => ⟨S7x128x384, .bf16⟩
  | .local _ .vmem, ⟨5, _⟩ => ⟨S7x128x384, .bf16⟩
  | .local _ .vmem, ⟨6, _⟩ => ⟨S7x128x384, .bf16⟩
  | .local _ .vmem, ⟨7, _⟩ => ⟨S7x128x384, .bf16⟩
  | .local _ .vmem, ⟨8, _⟩ => ⟨S7x128x256, .bf16⟩
  | .local _ .vmem, ⟨9, _⟩ => ⟨S7x128x256, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v12 : BitVec 32 := Scalar.xori v2 c1_i32_6
  let c1_i32_8 : BitVec 32 := 1#32
  let v13 : BitVec 32 := Scalar.muli v12 c1_i32_8
  let v14 : BitVec 32 := Scalar.addi c0_i32 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_10 : BitVec 32 := 1#32
  let v16 : BitVec 32 := Scalar.muli v15 c1_i32_10
  let v17 : BitVec 32 := Scalar.addi c0_i32_11 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_13 : BitVec 32 := 1#32
  let v19 : BitVec 32 := Scalar.muli v18 c1_i32_13
  let v20 : BitVec 32 := Scalar.addi c0_i32_14 v19
  v20.toNat
def k0_off1 (d0 : Dev nD) (c1_i32_22 : BitVec 32) (c1_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v31 : BitVec 32 := Scalar.xori v10 c1_i32_22
  let c4_i32_24 : BitVec 32 := 4#32
  let v33 : BitVec 32 := Scalar.muli v31 c4_i32_24
  let c1_i32_3 : BitVec 32 := 1#32
  let v7 : BitVec 32 := Scalar.shrsi v2 c1_i32_3
  let c1_i32_4 : BitVec 32 := 1#32
  let v8 : BitVec 32 := Scalar.andi v7 c1_i32_4
  let v32 : BitVec 32 := Scalar.xori v8 c1_i32_23
  let c2_i32_25 : BitVec 32 := 2#32
  let v34 : BitVec 32 := Scalar.muli v32 c2_i32_25
  let v35 : BitVec 32 := Scalar.addi v33 v34
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_21 : BitVec 32 := 1#32
  let v30 : BitVec 32 := Scalar.xori v6 c1_i32_21
  let v36 : BitVec 32 := Scalar.xori v30 v32
  let v37 : BitVec 32 := Scalar.addi v35 v36
  let c128_i32 : BitVec 32 := 128#32
  let v38 : BitVec 32 := Scalar.muli v37 c128_i32
  let v39 : Index := Scalar.indexCast v38
  let c768 : Index := 768#32
  ![v39.toNat, 768]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v44 : BitVec 32 := Scalar.xori v2 c1_i32_29
  let c1_i32_36 : BitVec 32 := 1#32
  let v45 : BitVec 32 := Scalar.muli v44 c1_i32_36
  let v46 : BitVec 32 := Scalar.addi c0_i32_37 v45
  v46.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v69 : BitVec 32 := Scalar.xori v2 c1_i32_51
  let c1_i32_58 : BitVec 32 := 1#32
  let v70 : BitVec 32 := Scalar.muli v69 c1_i32_58
  let v71 : BitVec 32 := Scalar.addi c0_i32_59 v70
  v71.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v94 : BitVec 32 := Scalar.xori v2 c1_i32_73
  let c1_i32_80 : BitVec 32 := 1#32
  let v95 : BitVec 32 := Scalar.muli v94 c1_i32_80
  let v96 : BitVec 32 := Scalar.addi c0_i32_81 v95
  v96.toNat
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v119 : BitVec 32 := Scalar.xori v2 c1_i32_95
  let c1_i32_102 : BitVec 32 := 1#32
  let v120 : BitVec 32 := Scalar.muli v119 c1_i32_102
  let v121 : BitVec 32 := Scalar.addi c0_i32_103 v120
  v121.toNat
def k0_off2 (d0 : Dev nD) (c1_i32_109 : BitVec 32) (c1_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c1_i32_108 : BitVec 32 := 1#32
  let v130 : BitVec 32 := Scalar.xori v10 c1_i32_108
  let c4_i32_111 : BitVec 32 := 4#32
  let v133 : BitVec 32 := Scalar.muli v130 c4_i32_111
  let c1_i32_3 : BitVec 32 := 1#32
  let v7 : BitVec 32 := Scalar.shrsi v2 c1_i32_3
  let c1_i32_4 : BitVec 32 := 1#32
  let v8 : BitVec 32 := Scalar.andi v7 c1_i32_4
  let v131 : BitVec 32 := Scalar.xori v8 c1_i32_109
  let c2_i32_112 : BitVec 32 := 2#32
  let v134 : BitVec 32 := Scalar.muli v131 c2_i32_112
  let v135 : BitVec 32 := Scalar.addi v133 v134
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v132 : BitVec 32 := Scalar.xori v6 c1_i32_110
  let v136 : BitVec 32 := Scalar.xori v132 v131
  let v137 : BitVec 32 := Scalar.addi v135 v136
  let c128_i32_113 : BitVec 32 := 128#32
  let v138 : BitVec 32 := Scalar.muli v137 c128_i32_113
  let v139 : Index := Scalar.indexCast v138
  let c0_114 : Index := 0#32
  ![v139.toNat, 0]
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v144 : BitVec 32 := Scalar.xori v2 c4_i32_118
  let c1_i32_125 : BitVec 32 := 1#32
  let v145 : BitVec 32 := Scalar.muli v144 c1_i32_125
  let v146 : BitVec 32 := Scalar.addi c0_i32_126 v145
  v146.toNat
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_141 : BitVec 32 := 4#32
  let v169 : BitVec 32 := Scalar.xori v2 c4_i32_141
  let c1_i32_148 : BitVec 32 := 1#32
  let v170 : BitVec 32 := Scalar.muli v169 c1_i32_148
  let v171 : BitVec 32 := Scalar.addi c0_i32_149 v170
  v171.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_164 : BitVec 32 := 4#32
  let v194 : BitVec 32 := Scalar.xori v2 c4_i32_164
  let c1_i32_171 : BitVec 32 := 1#32
  let v195 : BitVec 32 := Scalar.muli v194 c1_i32_171
  let v196 : BitVec 32 := Scalar.addi c0_i32_172 v195
  v196.toNat
def k0_dev11 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_187 : BitVec 32 := 4#32
  let v219 : BitVec 32 := Scalar.xori v2 c4_i32_187
  let c1_i32_194 : BitVec 32 := 1#32
  let v220 : BitVec 32 := Scalar.muli v219 c1_i32_194
  let v221 : BitVec 32 := Scalar.addi c0_i32_195 v220
  v221.toNat
def k0_off3 (d0 : Dev nD) (c1_i32_202 : BitVec 32) (c1_i32_201 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v232 : BitVec 32 := Scalar.xori v10 c1_i32_202
  let c4_i32_203 : BitVec 32 := 4#32
  let v233 : BitVec 32 := Scalar.muli v232 c4_i32_203
  let c1_i32_3 : BitVec 32 := 1#32
  let v7 : BitVec 32 := Scalar.shrsi v2 c1_i32_3
  let c1_i32_4 : BitVec 32 := 1#32
  let v8 : BitVec 32 := Scalar.andi v7 c1_i32_4
  let c1_i32_200 : BitVec 32 := 1#32
  let v230 : BitVec 32 := Scalar.xori v8 c1_i32_200
  let c2_i32_204 : BitVec 32 := 2#32
  let v234 : BitVec 32 := Scalar.muli v230 c2_i32_204
  let v235 : BitVec 32 := Scalar.addi v233 v234
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v231 : BitVec 32 := Scalar.xori v6 c1_i32_201
  let v236 : BitVec 32 := Scalar.xori v231 v230
  let v237 : BitVec 32 := Scalar.addi v235 v236
  let c128_i32_205 : BitVec 32 := 128#32
  let v238 : BitVec 32 := Scalar.muli v237 c128_i32_205
  let v239 : Index := Scalar.indexCast v238
  let c384 : Index := 384#32
  ![v239.toNat, 384]
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_209 : BitVec 32 := 3#32
  let v244 : BitVec 32 := Scalar.xori v2 c3_i32_209
  let c1_i32_216 : BitVec 32 := 1#32
  let v245 : BitVec 32 := Scalar.muli v244 c1_i32_216
  let v246 : BitVec 32 := Scalar.addi c0_i32_217 v245
  v246.toNat
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_232 : BitVec 32 := 3#32
  let v269 : BitVec 32 := Scalar.xori v2 c3_i32_232
  let c1_i32_239 : BitVec 32 := 1#32
  let v270 : BitVec 32 := Scalar.muli v269 c1_i32_239
  let v271 : BitVec 32 := Scalar.addi c0_i32_240 v270
  v271.toNat
def k0_dev14 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_255 : BitVec 32 := 3#32
  let v294 : BitVec 32 := Scalar.xori v2 c3_i32_255
  let c1_i32_262 : BitVec 32 := 1#32
  let v295 : BitVec 32 := Scalar.muli v294 c1_i32_262
  let v296 : BitVec 32 := Scalar.addi c0_i32_263 v295
  v296.toNat
def k0_dev15 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_278 : BitVec 32 := 3#32
  let v319 : BitVec 32 := Scalar.xori v2 c3_i32_278
  let c1_i32_285 : BitVec 32 := 1#32
  let v320 : BitVec 32 := Scalar.muli v319 c1_i32_285
  let v321 : BitVec 32 := Scalar.addi c0_i32_286 v320
  v321.toNat
def k0_off4 (d0 : Dev nD) (c1_i32_316 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c1_i32_315 : BitVec 32 := 1#32
  let v346 : BitVec 32 := Scalar.xori v10 c1_i32_315
  let c4_i32_317 : BitVec 32 := 4#32
  let v348 : BitVec 32 := Scalar.muli v346 c4_i32_317
  let c1_i32_3 : BitVec 32 := 1#32
  let v7 : BitVec 32 := Scalar.shrsi v2 c1_i32_3
  let c1_i32_4 : BitVec 32 := 1#32
  let v8 : BitVec 32 := Scalar.andi v7 c1_i32_4
  let v347 : BitVec 32 := Scalar.xori v8 c1_i32_316
  let c2_i32_318 : BitVec 32 := 2#32
  let v349 : BitVec 32 := Scalar.muli v347 c2_i32_318
  let v350 : BitVec 32 := Scalar.addi v348 v349
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v351 : BitVec 32 := Scalar.xori v6 v347
  let v352 : BitVec 32 := Scalar.addi v350 v351
  let c128_i32_319 : BitVec 32 := 128#32
  let v353 : BitVec 32 := Scalar.muli v352 c128_i32_319
  let v354 : Index := Scalar.indexCast v353
  let c768_320 : Index := 768#32
  ![v354.toNat, 768]
def k0_dev16 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v362 : BitVec 32 := Scalar.xori v2 c4_i32_326
  let c1_i32_333 : BitVec 32 := 1#32
  let v363 : BitVec 32 := Scalar.muli v362 c1_i32_333
  let v364 : BitVec 32 := Scalar.addi c0_i32_334 v363
  v364.toNat
def k0_dev17 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_350 : BitVec 32 := 4#32
  let v389 : BitVec 32 := Scalar.xori v2 c4_i32_350
  let c1_i32_356 : BitVec 32 := 1#32
  let v390 : BitVec 32 := Scalar.muli v389 c1_i32_356
  let v391 : BitVec 32 := Scalar.addi c0_i32_357 v390
  v391.toNat
def k0_off5 (d0 : Dev nD) (c1_i32_387 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_388 : BitVec 32 := 4#32
  let v418 : BitVec 32 := Scalar.muli v10 c4_i32_388
  let c1_i32_3 : BitVec 32 := 1#32
  let v7 : BitVec 32 := Scalar.shrsi v2 c1_i32_3
  let c1_i32_4 : BitVec 32 := 1#32
  let v8 : BitVec 32 := Scalar.andi v7 c1_i32_4
  let c1_i32_386 : BitVec 32 := 1#32
  let v416 : BitVec 32 := Scalar.xori v8 c1_i32_386
  let c2_i32_389 : BitVec 32 := 2#32
  let v419 : BitVec 32 := Scalar.muli v416 c2_i32_389
  let v420 : BitVec 32 := Scalar.addi v418 v419
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v417 : BitVec 32 := Scalar.xori v6 c1_i32_387
  let v421 : BitVec 32 := Scalar.xori v417 v416
  let v422 : BitVec 32 := Scalar.addi v420 v421
  let c128_i32_390 : BitVec 32 := 128#32
  let v423 : BitVec 32 := Scalar.muli v422 c128_i32_390
  let v424 : Index := Scalar.indexCast v423
  let c0_391 : Index := 0#32
  ![v424.toNat, 0]
def k0_dev18 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_398 : BitVec 32 := 3#32
  let v432 : BitVec 32 := Scalar.xori v2 c3_i32_398
  let c1_i32_405 : BitVec 32 := 1#32
  let v433 : BitVec 32 := Scalar.muli v432 c1_i32_405
  let v434 : BitVec 32 := Scalar.addi c0_i32_406 v433
  v434.toNat
def k0_dev19 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_423 : BitVec 32 := 3#32
  let v459 : BitVec 32 := Scalar.xori v2 c3_i32_423
  let c1_i32_430 : BitVec 32 := 1#32
  let v460 : BitVec 32 := Scalar.muli v459 c1_i32_430
  let v461 : BitVec 32 := Scalar.addi c0_i32_431 v460
  v461.toNat
def k0_off6 (d0 : Dev nD) (c1_i32_461 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v487 : BitVec 32 := Scalar.xori v10 c1_i32_461
  let c4_i32_462 : BitVec 32 := 4#32
  let v488 : BitVec 32 := Scalar.muli v487 c4_i32_462
  let c1_i32_3 : BitVec 32 := 1#32
  let v7 : BitVec 32 := Scalar.shrsi v2 c1_i32_3
  let c1_i32_4 : BitVec 32 := 1#32
  let v8 : BitVec 32 := Scalar.andi v7 c1_i32_4
  let c2_i32_463 : BitVec 32 := 2#32
  let v489 : BitVec 32 := Scalar.muli v8 c2_i32_463
  let v490 : BitVec 32 := Scalar.addi v488 v489
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_460 : BitVec 32 := 1#32
  let v486 : BitVec 32 := Scalar.xori v6 c1_i32_460
  let v491 : BitVec 32 := Scalar.xori v486 v8
  let v492 : BitVec 32 := Scalar.addi v490 v491
  let c128_i32_464 : BitVec 32 := 128#32
  let v493 : BitVec 32 := Scalar.muli v492 c128_i32_464
  let v494 : Index := Scalar.indexCast v493
  let c384_465 : Index := 384#32
  ![v494.toNat, 384]
def k0_dev20 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_472 : BitVec 32 := 1#32
  let v502 : BitVec 32 := Scalar.xori v2 c1_i32_472
  let c1_i32_479 : BitVec 32 := 1#32
  let v503 : BitVec 32 := Scalar.muli v502 c1_i32_479
  let v504 : BitVec 32 := Scalar.addi c0_i32_480 v503
  v504.toNat
def k0_dev21 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_497 : BitVec 32 := 1#32
  let v529 : BitVec 32 := Scalar.xori v2 c1_i32_497
  let c1_i32_504 : BitVec 32 := 1#32
  let v530 : BitVec 32 := Scalar.muli v529 c1_i32_504
  let v531 : BitVec 32 := Scalar.addi c0_i32_505 v530
  v531.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_535 : BitVec 32 := 4#32
  let v557 : BitVec 32 := Scalar.muli v10 c4_i32_535
  let c1_i32_3 : BitVec 32 := 1#32
  let v7 : BitVec 32 := Scalar.shrsi v2 c1_i32_3
  let c1_i32_4 : BitVec 32 := 1#32
  let v8 : BitVec 32 := Scalar.andi v7 c1_i32_4
  let c1_i32_534 : BitVec 32 := 1#32
  let v556 : BitVec 32 := Scalar.xori v8 c1_i32_534
  let c2_i32_536 : BitVec 32 := 2#32
  let v558 : BitVec 32 := Scalar.muli v556 c2_i32_536
  let v559 : BitVec 32 := Scalar.addi v557 v558
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v560 : BitVec 32 := Scalar.xori v6 v556
  let v561 : BitVec 32 := Scalar.addi v559 v560
  let c128_i32_537 : BitVec 32 := 128#32
  let v562 : BitVec 32 := Scalar.muli v561 c128_i32_537
  let v563 : Index := Scalar.indexCast v562
  let c768_538 : Index := 768#32
  ![v563.toNat, 768]
def k0_dev22 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_547 : BitVec 32 := 3#32
  let v574 : BitVec 32 := Scalar.xori v2 c3_i32_547
  let c1_i32_553 : BitVec 32 := 1#32
  let v575 : BitVec 32 := Scalar.muli v574 c1_i32_553
  let v576 : BitVec 32 := Scalar.addi c0_i32_554 v575
  v576.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c4_i32_584 : BitVec 32 := 4#32
  let v602 : BitVec 32 := Scalar.muli v10 c4_i32_584
  let c1_i32_3 : BitVec 32 := 1#32
  let v7 : BitVec 32 := Scalar.shrsi v2 c1_i32_3
  let c1_i32_4 : BitVec 32 := 1#32
  let v8 : BitVec 32 := Scalar.andi v7 c1_i32_4
  let c2_i32_585 : BitVec 32 := 2#32
  let v603 : BitVec 32 := Scalar.muli v8 c2_i32_585
  let v604 : BitVec 32 := Scalar.addi v602 v603
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1_i32_583 : BitVec 32 := 1#32
  let v601 : BitVec 32 := Scalar.xori v6 c1_i32_583
  let v605 : BitVec 32 := Scalar.xori v601 v8
  let v606 : BitVec 32 := Scalar.addi v604 v605
  let c128_i32_586 : BitVec 32 := 128#32
  let v607 : BitVec 32 := Scalar.muli v606 c128_i32_586
  let v608 : Index := Scalar.indexCast v607
  let c0_587 : Index := 0#32
  ![v608.toNat, 0]
def k0_dev23 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_597 : BitVec 32 := 1#32
  let v619 : BitVec 32 := Scalar.xori v2 c1_i32_597
  let c1_i32_604 : BitVec 32 := 1#32
  let v620 : BitVec 32 := Scalar.muli v619 c1_i32_604
  let v621 : BitVec 32 := Scalar.addi c0_i32_605 v620
  v621.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c1_i32_634 : BitVec 32 := 1#32
  let v646 : BitVec 32 := Scalar.xori v10 c1_i32_634
  let c4_i32_635 : BitVec 32 := 4#32
  let v647 : BitVec 32 := Scalar.muli v646 c4_i32_635
  let c1_i32_3 : BitVec 32 := 1#32
  let v7 : BitVec 32 := Scalar.shrsi v2 c1_i32_3
  let c1_i32_4 : BitVec 32 := 1#32
  let v8 : BitVec 32 := Scalar.andi v7 c1_i32_4
  let c2_i32_636 : BitVec 32 := 2#32
  let v648 : BitVec 32 := Scalar.muli v8 c2_i32_636
  let v649 : BitVec 32 := Scalar.addi v647 v648
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v650 : BitVec 32 := Scalar.xori v6 v8
  let v651 : BitVec 32 := Scalar.addi v649 v650
  let c128_i32_637 : BitVec 32 := 128#32
  let v652 : BitVec 32 := Scalar.muli v651 c128_i32_637
  let v653 : Index := Scalar.indexCast v652
  let c384_638 : Index := 384#32
  ![v653.toNat, 384]
def k0_dev24 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_648 : BitVec 32 := 4#32
  let v664 : BitVec 32 := Scalar.xori v2 c4_i32_648
  let c1_i32_655 : BitVec 32 := 1#32
  let v665 : BitVec 32 := Scalar.muli v664 c1_i32_655
  let v666 : BitVec 32 := Scalar.addi c0_i32_656 v665
  v666.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_697 : BitVec 32 := 128#32
  let v699 : BitVec 32 := Scalar.muli v2 c128_i32_697
  let v700 : Index := Scalar.indexCast v699
  let c768_698 : Index := 768#32
  ![v700.toNat, 768]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_750 : BitVec 32 := 128#32
  let v753 : BitVec 32 := Scalar.muli v2 c128_i32_750
  let v754 : Index := Scalar.indexCast v753
  let c0_751 : Index := 0#32
  ![v754.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_803 : BitVec 32 := 128#32
  let v807 : BitVec 32 := Scalar.muli v2 c128_i32_803
  let v808 : Index := Scalar.indexCast v807
  let c384_804 : Index := 384#32
  ![v808.toNat, 384]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
The geometry of the exchange: the three axes of the eight-device cube, the three column streams and
their twenty-one transfers, which device each transfer goes to and which 128 rows it carries, and the
buffers and semaphores it uses. Nothing here depends on the float operations.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe

/-! ## The cube of devices -/

/-- The bit pattern that moves a device along an axis of the cube. -/
def axisMask : Fin 3 → ℕ := ![1, 3, 4]

/-- The neighbour of a device along an axis. -/
def peer (a : Fin 3) (c : Dev nD) : Dev nD := ⟨(c.val ^^^ axisMask a) % 8, Nat.mod_lt _ (by decide)⟩

/-- A device is its neighbour's neighbour. -/
theorem peer_peer : ∀ (a : Fin 3) (c : Dev nD), peer a (peer a c) = c := by decide

/-- Moving along an axis permutes the devices. -/
def peerEquiv (a : Fin 3) : Dev nD ≃ Dev nD := ⟨peer a, peer a, peer_peer a, peer_peer a⟩

/-! ## Streams and transfers -/

/-- A transfer: its column stream and its slot. -/
abbrev Tr : Type := Fin 3 × Fin 7

/-- The order in which a stream crosses the three axes. -/
def order : Fin 3 → Fin 3 → Fin 3 := ![![2, 1, 0], ![1, 0, 2], ![0, 2, 1]]

/-- The phase of a slot: slots 0 to 3 are sent first, then 4 and 5, then 6. -/
def phase : Fin 7 → Fin 3 := ![0, 0, 0, 0, 1, 1, 2]

/-- The axis a transfer crosses. -/
def ax (t : Tr) : Fin 3 := order t.1 (phase t.2)

/-- The device whose rows a slot of a stream carries, seen from the sender. -/
def rowsOf (s : Fin 3) : Fin 7 → Dev nD → Dev nD
  | 0, c => peer (order s 0) (peer (order s 1) (peer (order s 2) c))
  | 1, c => peer (order s 0) (peer (order s 1) c)
  | 2, c => peer (order s 0) (peer (order s 2) c)
  | 3, c => peer (order s 0) c
  | 4, c => peer (order s 1) (peer (order s 2) c)
  | 5, c => peer (order s 1) c
  | 6, c => peer (order s 2) c

/-- The width of a stream's columns. -/
abbrev wd : Fin 3 → ℕ
  | 0 => 384
  | 1 => 384
  | 2 => 256

/-- The first column of a stream. -/
abbrev col : Fin 3 → ℕ
  | 0 => 0
  | 1 => 384
  | 2 => 768

/-- A stream's seven slots, one slot, and one slot without its leading axis. -/
abbrev S7 (s : Fin 3) : Shape := ⟨3, ![7, 128, wd s]⟩
abbrev S1 (s : Fin 3) : Shape := ⟨3, ![1, 128, wd s]⟩
abbrev S2 (s : Fin 3) : Shape := ⟨2, ![128, wd s]⟩

theorem S1_squeezes : ∀ s, (S1 s).Squeezes (S2 s) := by decide
theorem casts21 : ∀ s, (S2 s).ShapeCasts (S1 s) := by decide
theorem casts12 : ∀ s, (S1 s).ShapeCasts (S2 s) := by decide

theorem slot_inb : ∀ (s : Fin 3) (k : Fin 7) (a : Fin 3), (![k.val, 0, 0] : Fin 3 → ℕ) a + (S1 s).size a ≤ (S7 s).size a := by
  decide

/-- Slot `k` of a stream's seven. -/
def slotRect (s : Fin 3) (k : Fin 7) : Rect (S7 s) := Rect.unit (s := S7 s) ![k.val, 0, 0] (S1 s).size (slot_inb s k)

theorem rows_inb : ∀ (s : Fin 3) (d : Dev nD) (a : Fin 2), (![128 * d.val, col s] : Fin 2 → ℕ) a + (S2 s).size a ≤ S1024x1024.size a := by
  decide

/-- The rows device `d` keeps, at a stream's columns, of the product. -/
def rowsRect (s : Fin 3) (d : Dev nD) : Rect S1024x1024 := Rect.unit (s := S1024x1024) ![128 * d.val, col s] (S2 s).size (rows_inb s d)

theorem out_inb : ∀ (s : Fin 3) (a : Fin 2), (![0, col s] : Fin 2 → ℕ) a + (S2 s).size a ≤ S128x1024.size a := by decide

/-- A stream's columns of the result block. -/
def outRect (s : Fin 3) : Rect S128x1024 := Rect.unit (s := S128x1024) ![0, col s] (S2 s).size (out_inb s)

/-! ## Buffers and semaphores -/

/-- The operand and result blocks and the product. -/
abbrev xM : Memref sig .tc .vmem S1024x128 .bf16 := Memref.whole cc0_stg0_0
abbrev wM : Memref sig .tc .vmem S128x1024 .bf16 := Memref.whole cc0_stg1_0
abbrev oM : Memref sig .tc .vmem S128x1024 .f32 := Memref.whole cc0_stg2_0
abbrev pM : Memref sig .tc .vmem S1024x1024 .bf16 := Memref.whole cc0_scratch0

/-- A stream's outgoing slots. -/
def sendM : (s : Fin 3) → Memref sig .tc .vmem (S7 s) .bf16
  | 0 => Memref.whole cc0_scratch1
  | 1 => Memref.whole cc0_scratch3
  | 2 => Memref.whole cc0_scratch5

/-- A stream's landing slots. -/
def recvM : (s : Fin 3) → Memref sig .tc .vmem (S7 s) .bf16
  | 0 => Memref.whole cc0_scratch2
  | 1 => Memref.whole cc0_scratch4
  | 2 => Memref.whole cc0_scratch6

/-- A transfer's outgoing slot and its landing slot. -/
abbrev sslot (t : Tr) : Memref sig .tc .vmem (S1 t.1) .bf16 := (sendM t.1).slice (slotRect t.1 t.2) (fun _ => rfl)
abbrev rslot (t : Tr) : Memref sig .tc .vmem (S1 t.1) .bf16 := (recvM t.1).slice (slotRect t.1 t.2) (fun _ => rfl)

/-- The two ends of a transfer, as it names them. -/
abbrev ssrc (t : Tr) : Memref sig .tc .vmem (S2 t.1) .bf16 := (sslot t).squeeze (S2 t.1) (S1_squeezes t.1)
abbrev rdst (t : Tr) : Memref sig .tc .vmem (S2 t.1) .bf16 := (rslot t).squeeze (S2 t.1) (S1_squeezes t.1)

/-- The semaphore every device signals its neighbours on before it sends. -/
abbrev barS : Sem sig := barrier0

/-- A transfer's two semaphores: the sender's and the receiver's. -/
def sendS (t : Tr) : DmaSem sig := ⟨3 + (7 * t.1.val + t.2.val), by have := t.1.isLt; have := t.2.isLt; show _ < 45; omega⟩
def recvS (t : Tr) : DmaSem sig := ⟨24 + (7 * t.1.val + t.2.val), by have := t.1.isLt; have := t.2.isLt; show _ < 45; omega⟩

/-- The transfer a number below 21 names. -/
def trOf (n : ℕ) : Tr := (⟨n / 7 % 3, Nat.mod_lt _ (by decide)⟩, ⟨n % 7, Nat.mod_lt _ (by decide)⟩)

theorem trOf_ix : ∀ t : Tr, trOf (7 * t.1.val + t.2.val) = t := by decide

/-- The credit of a transfer, the same at both ends. -/
def cred₁ (t : Tr) : ℕ := (rdst t).view.dmaCredit

theorem credit_send : ∀ t : Tr, (ssrc t).view.dmaCredit = cred₁ t
  | (0, _) => rfl
  | (1, _) => rfl
  | (2, _) => rfl

theorem cred₁_pos (t : Tr) : 0 < cred₁ t := View.dmaCredit_pos _ (by
  have h : ∀ s, 0 < (S2 s).numel := by decide
  exact h t.1)

/-! ## The kernel's addresses

The devices and offsets the kernel computes from its own id, each decided over the eight devices. -/

theorem devs_barrier : ∀ c : Dev nD, (⟨k0_dev1 c, k0_dev1_lt c⟩ : Dev nD) = peer 0 c ∧ (⟨k0_dev2 c, k0_dev2_lt c⟩ : Dev nD) = peer 1 c
    ∧ (⟨k0_dev3 c, k0_dev3_lt c⟩ : Dev nD) = peer 2 c := by decide +kernel

theorem off1_eq : ∀ c : Dev nD, k0_off1 c 1#32 1#32 = ![128 * (rowsOf 2 0 c).val, 768] ∧ k0_off1 c 1#32 0#32 = ![128 * (rowsOf 2 1 c).val, 768]
    ∧ k0_off1 c 0#32 1#32 = ![128 * (rowsOf 2 2 c).val, 768] ∧ k0_off1 c 0#32 0#32 = ![128 * (rowsOf 2 3 c).val, 768] := by decide +kernel
theorem off2_eq : ∀ c : Dev nD, k0_off2 c 1#32 1#32 = ![128 * (rowsOf 0 0 c).val, 0] ∧ k0_off2 c 1#32 0#32 = ![128 * (rowsOf 0 1 c).val, 0]
    ∧ k0_off2 c 0#32 1#32 = ![128 * (rowsOf 0 2 c).val, 0] ∧ k0_off2 c 0#32 0#32 = ![128 * (rowsOf 0 3 c).val, 0] := by decide +kernel
theorem off3_eq : ∀ c : Dev nD, k0_off3 c 1#32 1#32 = ![128 * (rowsOf 1 0 c).val, 384] ∧ k0_off3 c 0#32 1#32 = ![128 * (rowsOf 1 1 c).val, 384]
    ∧ k0_off3 c 1#32 0#32 = ![128 * (rowsOf 1 2 c).val, 384] ∧ k0_off3 c 0#32 0#32 = ![128 * (rowsOf 1 3 c).val, 384] := by decide +kernel
theorem off4_eq : ∀ c : Dev nD, k0_off4 c 1#32 = ![128 * (rowsOf 2 4 c).val, 768] ∧ k0_off4 c 0#32 = ![128 * (rowsOf 2 5 c).val, 768] := by
  decide +kernel
theorem off5_eq : ∀ c : Dev nD, k0_off5 c 1#32 = ![128 * (rowsOf 0 4 c).val, 0] ∧ k0_off5 c 0#32 = ![128 * (rowsOf 0 5 c).val, 0] := by
  decide +kernel
theorem off6_eq : ∀ c : Dev nD, k0_off6 c 1#32 = ![128 * (rowsOf 1 4 c).val, 384] ∧ k0_off6 c 0#32 = ![128 * (rowsOf 1 5 c).val, 384] := by
  decide +kernel
theorem off7_eq : ∀ c : Dev nD, k0_off7 c = ![128 * (rowsOf 2 6 c).val, 768] := by decide +kernel
theorem off8_eq : ∀ c : Dev nD, k0_off8 c = ![128 * (rowsOf 0 6 c).val, 0] := by decide +kernel
theorem off9_eq : ∀ c : Dev nD, k0_off9 c = ![128 * (rowsOf 1 6 c).val, 384] := by decide +kernel

/-- The device each transfer is addressed to: in the first phase, -/
theorem devs_first2 : ∀ c : Dev nD, (⟨k0_dev4 c, k0_dev4_lt c⟩ : Dev nD) = peer (ax (2, 0)) c
    ∧ (⟨k0_dev5 c, k0_dev5_lt c⟩ : Dev nD) = peer (ax (2, 1)) c
    ∧ (⟨k0_dev6 c, k0_dev6_lt c⟩ : Dev nD) = peer (ax (2, 2)) c
    ∧ (⟨k0_dev7 c, k0_dev7_lt c⟩ : Dev nD) = peer (ax (2, 3)) c := by decide +kernel
theorem devs_first0 : ∀ c : Dev nD, (⟨k0_dev8 c, k0_dev8_lt c⟩ : Dev nD) = peer (ax (0, 0)) c
    ∧ (⟨k0_dev9 c, k0_dev9_lt c⟩ : Dev nD) = peer (ax (0, 1)) c
    ∧ (⟨k0_dev10 c, k0_dev10_lt c⟩ : Dev nD) = peer (ax (0, 2)) c
    ∧ (⟨k0_dev11 c, k0_dev11_lt c⟩ : Dev nD) = peer (ax (0, 3)) c := by decide +kernel
theorem devs_first1 : ∀ c : Dev nD, (⟨k0_dev12 c, k0_dev12_lt c⟩ : Dev nD) = peer (ax (1, 0)) c
    ∧ (⟨k0_dev13 c, k0_dev13_lt c⟩ : Dev nD) = peer (ax (1, 1)) c
    ∧ (⟨k0_dev14 c, k0_dev14_lt c⟩ : Dev nD) = peer (ax (1, 2)) c
    ∧ (⟨k0_dev15 c, k0_dev15_lt c⟩ : Dev nD) = peer (ax (1, 3)) c := by decide +kernel
/-- the second, -/
theorem devs_second : ∀ c : Dev nD, (⟨k0_dev16 c, k0_dev16_lt c⟩ : Dev nD) = peer (ax (2, 4)) c
    ∧ (⟨k0_dev17 c, k0_dev17_lt c⟩ : Dev nD) = peer (ax (2, 5)) c
    ∧ (⟨k0_dev18 c, k0_dev18_lt c⟩ : Dev nD) = peer (ax (0, 4)) c
    ∧ (⟨k0_dev19 c, k0_dev19_lt c⟩ : Dev nD) = peer (ax (0, 5)) c
    ∧ (⟨k0_dev20 c, k0_dev20_lt c⟩ : Dev nD) = peer (ax (1, 4)) c
    ∧ (⟨k0_dev21 c, k0_dev21_lt c⟩ : Dev nD) = peer (ax (1, 5)) c := by decide +kernel
/-- and the third. -/
theorem devs_third : ∀ c : Dev nD, (⟨k0_dev22 c, k0_dev22_lt c⟩ : Dev nD) = peer (ax (2, 6)) c
    ∧ (⟨k0_dev23 c, k0_dev23_lt c⟩ : Dev nD) = peer (ax (0, 6)) c
    ∧ (⟨k0_dev24 c, k0_dev24_lt c⟩ : Dev nD) = peer (ax (1, 6)) c := by decide +kernel

/-- The kernel's semaphore arrays, one entry for each transfer. -/
theorem sem_send (s : Fin 3) (k : Fin 7) (h) :
    ((cc0_scratch7.slice (Rect.unit (s := S3x7) ![s.val, k.val] S1x1.size h)).squeeze S_ squeezes_S1x1_S_).sem = sendS (s, k) := by
  revert h; revert k; revert s; decide
theorem sem_recv (s : Fin 3) (k : Fin 7) (h) :
    ((cc0_scratch8.slice (Rect.unit (s := S3x7) ![s.val, k.val] S1x1.size h)).squeeze S_ squeezes_S1x1_S_).sem = recvS (s, k) := by
  revert h; revert k; revert s; decide

end Cert.Exchange

end
-- ==== Proof.Schedule.lean ====
/-
What the devices hold and hand each other: the product each device forms, the block each transfer
carries, the result block, and the schedule of the semaphores — who signals each one, by how much, and
which buffers change hands with the signal.
-/
module

public import proofs.«01_k».proof.Proof.Mesh
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: arbitrary memory and generator registers, every semaphore at zero. -/
def s₀ : MemSt nD τ sig (Elt F) := ⟨m, fun _ => 0, ρ⟩

/-! ## Contents -/

/-- The operand blocks as the body reads them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- A device's partial product. -/
def prod (c : Dev nD) : FVec F S1024x1024 .bf16 := k0_pay2 (k0_pay1 (xstg m ρ c) (wstg m ρ c))

/-- The part of a device's partial product at device `d`'s rows and a stream's columns. -/
def part (c : Dev nD) (s : Fin 3) (d : Dev nD) : FVec F (S2 s) .bf16 :=
  ((pM : Memref sig .tc .vmem S1024x1024 .bf16).access (rowsRect s d)).read (Elt F) (prod m ρ c)

/-- What device `c` sends in the first phase, and as its own share later. -/
def own (c : Dev nD) (s : Fin 3) (k : Fin 7) : FVec F (S2 s) .bf16 := part m ρ c s (rowsOf s k c)

/-- What device `c` sends in the second phase in slot `k`: its own share and the one that landed in slot `j`. -/
def second (c : Dev nD) (s : Fin 3) (k j : Fin 7) : FVec F (S2 s) .bf16 := addf (own m ρ c s k) (own m ρ (peer (order s 0) c) s j)

/-- What device `c` sends in the third phase: its own share and those that landed in slots 2 and 4. -/
def third (c : Dev nD) (s : Fin 3) : FVec F (S2 s) .bf16 :=
  addf (addf (own m ρ c s 6) (own m ρ (peer (order s 0) c) s 2)) (second m ρ (peer (order s 1) c) s 4 0)

/-- What device `c` sends in each slot of a stream. -/
def sent (c : Dev nD) (s : Fin 3) : Fin 7 → FVec F (S2 s) .bf16
  | 0 => own m ρ c s 0
  | 1 => own m ρ c s 1
  | 2 => own m ρ c s 2
  | 3 => own m ρ c s 3
  | 4 => second m ρ c s 4 0
  | 5 => second m ρ c s 5 1
  | 6 => third m ρ c s

/-- What lands at device `c` in a transfer. -/
def landed (c : Dev nD) (t : Tr) : FVec F (S2 t.1) .bf16 := sent m ρ (peer (ax t) c) t.1 t.2

/-- A block with the slot's leading axis, and without it. -/
def lead {e : EltTy} (s : Fin 3) (v : (S2 s).Idx → Elt F e) : (S1 s).Idx → Elt F e := shapeCast (S1 s) v (casts21 s)
def flat {e : EltTy} (s : Fin 3) (v : (S1 s).Idx → Elt F e) : (S2 s).Idx → Elt F e := shapeCast (S2 s) v (casts12 s)

omit [FloatOps F] in
theorem flat_lead {e : EltTy} (s : Fin 3) (v : (S2 s).Idx → Elt F e) : flat s (lead s v) = v := shapeCast_shapeCast v _ _

/-- The sum a device forms of its own rows: its share and the three that landed for it. -/
def total (s : Fin 3) (v : FVec F (S2 s) .bf16) (a b d : FVec F (S2 s) .bf16) : FVec F (S2 s) .f32 :=
  addf (addf (addf (extf .f32 v bitsLt_bf16_f32) (extf .f32 a bitsLt_bf16_f32)) (extf .f32 b bitsLt_bf16_f32)) (extf .f32 d bitsLt_bf16_f32)

/-- The activation the kernel applies to that sum. -/
def act (s : Fin 3) (y : FVec F (S2 s) .f32) : FVec F (S2 s) .f32 :=
  mulf (mulf (broadcast (S2 s) (Scalar.ofBits .f32 0x3F000000#32)) y)
    (addf (broadcast (S2 s) (Scalar.ofBits .f32 0x3F800000#32))
      (tanh (mulf (broadcast (S2 s) (Scalar.ofBits .f32 0x3F4C422A#32))
        (addf y (mulf (mulf (mulf (broadcast (S2 s) (Scalar.ofBits .f32 0x3D372713#32)) y) y) y)))))

/-- A stream's columns of device `c`'s result block. -/
def fin (c : Dev nD) (s : Fin 3) : FVec F (S2 s) .f32 :=
  act s (total s (part m ρ c s c) (landed m ρ c (s, 3)) (landed m ρ c (s, 5)) (landed m ρ c (s, 6)))

/-! ## The cells -/

abbrev barCell (c : Dev nD) : GSem nD τ sig := ((c : Thread nD τ), .reg barS)
abbrev sendCell (c : Dev nD) (t : Tr) : GSem nD τ sig := ((c : Thread nD τ), .dma (sendS t))
abbrev recvCell (c : Dev nD) (t : Tr) : GSem nD τ sig := ((c : Thread nD τ), .dma (recvS t))

/-- A slot of device `c` at any contents. -/
def anySlot (c : Dev nD) {s : Fin 3} (M : Memref sig .tc .vmem (S1 s) .bf16) : sProp 𝕄 :=
  iprop(∃ X : (S1 s).Idx → Elt F .bf16, ownsTc c M fullShare X)

omit [FloatOps F] in
instance anySlot_storable (c : Dev nD) {s : Fin 3} (M : Memref sig .tc .vmem (S1 s) .bf16) :
    BI.Storable (upEmb : UEmb _ 𝕄) (anySlot (F := F) c M) := by unfold anySlot; infer_instance

/-- What device `c` is handed by its neighbour's signal along axis `a`: the neighbour's landing slots of the seven
    transfers that cross that axis. -/
def barPay (c : Dev nD) (a : Fin 3) : sProp 𝕄 :=
  bigSep (Finset.univ.filter fun t : Tr => ax t = a) fun t => anySlot (peer (ax t) c) (rslot t)

/-- What a landing hands device `c`: its landing slot, holding what was sent. -/
def recvPay (c : Dev nD) (t : Tr) : sProp 𝕄 := ownsTc c (rslot t) fullShare (lead t.1 (landed m ρ c t))

/-- What a departure hands device `c` back: its outgoing slot. -/
def sendPay (c : Dev nD) (t : Tr) : sProp 𝕄 := anySlot c (sslot t)

omit [FloatOps F] in
instance barPay_storable (c : Dev nD) (a : Fin 3) : BI.Storable (upEmb : UEmb _ 𝕄) (barPay (F := F) c a) := by unfold barPay; infer_instance
instance recvPay_storable (c : Dev nD) (t : Tr) : BI.Storable (upEmb : UEmb _ 𝕄) (recvPay m ρ c t) := by unfold recvPay; infer_instance
omit [FloatOps F] in
instance sendPay_storable (c : Dev nD) (t : Tr) : BI.Storable (upEmb : UEmb _ 𝕄) (sendPay (F := F) c t) := by unfold sendPay; infer_instance

/-! ## The schedule -/

/-- Whether a DMA semaphore is a sender's or a receiver's. -/
abbrev IsSend (q : DmaSem sig) : Prop := 3 ≤ q.val ∧ q.val < 24
abbrev IsRecv (q : DmaSem sig) : Prop := 24 ≤ q.val

/-- One round: a device's barrier semaphore has a unit from each of its three neighbours; a sender's or receiver's
    semaphore has its transfer's credit. -/
def sched : Rounds.Schedule (GSem nD τ sig) (Fin 3) 𝕄 where
  duties g r := if r = 0 ∧ g.1.2 = .tc then (match g.2 with
    | .reg q => Finset.univ
    | .dma q => if 3 ≤ q.val then {0} else ∅) else ∅
  unitless _ := False
  amount g _ _ := match g.2 with
    | .reg q => 1
    | .dma q => if 24 ≤ q.val then cred₁ (trOf (q.val - 24)) else cred₁ (trOf (q.val - 3))
  payload g _ d := match g.2 with
    | .reg q => barPay g.1.1 d
    | .dma q => if 24 ≤ q.val then recvPay m ρ g.1.1 (trOf (q.val - 24)) else sendPay g.1.1 (trOf (q.val - 3))
  amount_pos g _ _ _ := by
    rcases g with ⟨θ, q | q⟩
    · exact Nat.one_pos
    · dsimp only; split <;> exact cred₁_pos _

instance sched_payload_storable (g : GSem nD τ sig) (r : ℕ) (d : Fin 3) :
    BI.Storable (upEmb : UEmb _ 𝕄) ((sched (F := F) m ρ).payload g r d) := by
  rcases g with ⟨θ, q | q⟩
  · exact barPay_storable θ.1 d
  · show BI.Storable upEmb (if 24 ≤ q.val then recvPay m ρ θ.1 (trOf (q.val - 24)) else sendPay θ.1 (trOf (q.val - 3)))
    split <;> infer_instance

theorem recv_ix (t : Tr) : trOf ((recvS t).val - 24) = t := by
  show trOf (24 + (7 * t.1.val + t.2.val) - 24) = t
  rw [Nat.add_sub_cancel_left, trOf_ix]
theorem send_ix (t : Tr) : trOf ((sendS t).val - 3) = t := by
  show trOf (3 + (7 * t.1.val + t.2.val) - 3) = t
  rw [Nat.add_sub_cancel_left, trOf_ix]
theorem recv_isRecv (t : Tr) : 24 ≤ (recvS t).val := Nat.le_add_right _ _
theorem send_isSend (t : Tr) : 3 ≤ (sendS t).val := Nat.le_add_right _ _
theorem send_not_recv (t : Tr) : ¬ 24 ≤ (sendS t).val := by
  have := t.1.isLt; have := t.2.isLt; show ¬ 24 ≤ 3 + (7 * t.1.val + t.2.val); omega

section Sched
variable (c : Dev nD) (t : Tr)

theorem duties_bar : (sched (F := F) m ρ).duties (barCell c) 0 = Finset.univ := by
  dsimp only [sched]; exact if_pos ⟨rfl, rfl⟩
theorem duties_send : (sched (F := F) m ρ).duties (sendCell c t) 0 = {0} := by
  dsimp only [sched]; rw [if_pos ⟨rfl, rfl⟩]; exact if_pos (send_isSend t)
theorem duties_recv : (sched (F := F) m ρ).duties (recvCell c t) 0 = {0} := by
  dsimp only [sched]; rw [if_pos ⟨rfl, rfl⟩]; exact if_pos ((by decide : 3 ≤ 24).trans (recv_isRecv t))
theorem duties_later (g : GSem nD τ sig) : ∀ r, 0 + 1 ≤ r → (sched (F := F) m ρ).duties g r = ∅ :=
  fun r hr => if_neg fun h => by omega

theorem amount_bar (d : Fin 3) : (sched (F := F) m ρ).amount (barCell c) 0 d = 1 := rfl
theorem amount_send (d : Fin 3) : (sched (F := F) m ρ).amount (sendCell c t) 0 d = cred₁ t :=
  (if_neg (send_not_recv t)).trans (congrArg cred₁ (send_ix t))
theorem amount_recv (d : Fin 3) : (sched (F := F) m ρ).amount (recvCell c t) 0 d = cred₁ t :=
  (if_pos (recv_isRecv t)).trans (congrArg cred₁ (recv_ix t))

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c t) 0 = cred₁ t := by
  unfold Schedule.expect Schedule.amountOf; rw [duties_send, Finset.sum_singleton, amount_send]
theorem expect_recv : (sched (F := F) m ρ).expect (recvCell c t) 0 = cred₁ t := by
  unfold Schedule.expect Schedule.amountOf; rw [duties_recv, Finset.sum_singleton, amount_recv]

theorem payload_bar (d : Fin 3) : (sched (F := F) m ρ).payload (barCell c) 0 d = barPay c d := rfl
theorem payload_send (d : Fin 3) : (sched (F := F) m ρ).payload (sendCell c t) 0 d = sendPay c t :=
  (if_neg (send_not_recv t)).trans (congrArg (sendPay c) (send_ix t))
theorem payload_recv (d : Fin 3) : (sched (F := F) m ρ).payload (recvCell c t) 0 d = recvPay m ρ c t :=
  (if_pos (recv_isRecv t)).trans (congrArg (recvPay m ρ c) (recv_ix t))

/-- The whole of each round's payload: a barrier's is every neighbour's landing slots, -/
theorem rest_bar : bigSep ((sched (F := F) m ρ).duties (barCell c) 0 \ ∅) (fun d => (sched (F := F) m ρ).payload (barCell c) 0 d)
    = bigSep Finset.univ fun t : Tr => anySlot (peer (ax t) c) (rslot t) := by
  rw [Finset.sdiff_empty, duties_bar, bigSep_fiberwise Finset.univ ax, show Finset.univ.image ax = Finset.univ by decide]
  rfl
/-- a departure's is the outgoing slot, -/
theorem rest_send : bigSep ((sched (F := F) m ρ).duties (sendCell c t) 0 \ ∅) (fun d => (sched (F := F) m ρ).payload (sendCell c t) 0 d) = sendPay c t := by
  rw [Finset.sdiff_empty, duties_send, bigSep_singleton, payload_send]
/-- a landing's the landing slot. -/
theorem rest_recv : bigSep ((sched (F := F) m ρ).duties (recvCell c t) 0 \ ∅) (fun d => (sched (F := F) m ρ).payload (recvCell c t) 0 d) = recvPay m ρ c t := by
  rw [Finset.sdiff_empty, duties_recv, bigSep_singleton, payload_recv]

end Sched

/-! ## What each device owes, and the levels -/

/-- The landings device `c` still owes when the transfers in `S` are sent. -/
def owed (c : Dev nD) (S : Finset Tr) : CellTallies nD τ sig Unit := ∑ t ∈ Sᶜ, tallyAt (recvCell (peer (ax t) c) t) () (cred₁ t)

/-- What it owes at launch: every landing and its three neighbours' barrier units. -/
def O₀ (c : Dev nD) : CellTallies nD τ sig Unit :=
  owed c ∅ + tallyAt (barCell (peer 2 c)) () 1 + tallyAt (barCell (peer 1 c)) () 1 + tallyAt (barCell (peer 0 c)) () 1

/-- Sending a transfer settles its landing. -/
theorem owed_send (c : Dev nD) {S : Finset Tr} {t : Tr} (ht : t ∉ S) :
    owed c S = owed c (insert t S) + tallyAt (recvCell (peer (ax t) c) t) () (cred₁ t) := by
  unfold owed
  rw [Finset.compl_insert, Finset.sum_erase_add]
  exact Finset.mem_compl.mpr ht

def L (g : GSem nD τ sig) : Finset Unit := if g.1.2 = .tc then {()} else ∅

/-- Barriers come first, then the landings by phase; nothing owed has another semaphore. -/
def lv (g : GSem nD τ sig) (_ : Unit) : ℕ := match g.2 with
  | .reg _ => 1
  | .dma q => if 24 ≤ q.val then 2 + (phase (trOf (q.val - 24)).2).val else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (t : Tr) : lv (recvCell c t) () = 2 + (phase t.2).val := by
  refine (if_pos (recv_isRecv t)).trans ?_
  rw [recv_ix]

/-- Every cell device `c` owes after sending `S` is a landing not in `S`. -/
theorem owed_pos {c : Dev nD} {S : Finset Tr} {g : GSem nD τ sig} {u : Unit} (h : 0 < owed c S g u) :
    ∃ t, t ∉ S ∧ g = recvCell (peer (ax t) c) t := by
  unfold owed at h
  rw [Finset.sum_apply, Finsupp.finset_sum_apply] at h
  obtain ⟨t, ht, hp⟩ := Finset.exists_ne_zero_of_sum_ne_zero h.ne'
  refine ⟨t, Finset.mem_compl.mp ht, ?_⟩
  rw [tallyAt_apply] at hp
  by_contra hn
  exact hp (if_neg fun h' => hn h'.1)

/-- A wait at level `n` is allowed while only later landings are owed. -/
theorem mayWait_of (c : Dev nD) (sm : SemLoc sig) (S : Finset Tr) (n : ℕ) (hn : lv ((c : Thread nD τ), sm) () = n)
    (h : ∀ t, t ∉ S → n < 2 + (phase t.2).val) : (levAts L lv : sProp 𝕄) ⊢ MayWait (c : Thread nD τ) sm () (owed c S) := by
  refine MayOwe.of_cut (L := L) (lev := lv) n (fun p hp => by rw [Finset.mem_singleton.mp hp, L_tc]; exact Finset.mem_singleton_self _)
    (fun g u hg => ?_) (fun p hp => by rw [Finset.mem_singleton.mp hp, hn]) (fun g u hg => ?_)
  · obtain ⟨t, -, rfl⟩ := owed_pos hg
    exact Finset.mem_singleton_self _
  · obtain ⟨t, ht, rfl⟩ := owed_pos hg
    exact (h t ht).trans_eq (lv_recv _ t).symm

end Cert.Exchange

end
-- ==== Proof.Steps.lean ====
/-
The state of a device part-way through the body, and one lemma for each kind of step it takes: reading a
part of its product, reading a landing slot, sending a transfer, waiting for a landing or a departure, and
storing a stream of its result. The state is indexed by the transfers sent, landed and departed and the
streams stored, so each lemma is stated once for every device, stream and slot.
-/
module

public import proofs.«01_k».proof.Proof.Schedule
public import Idealize.ShloMosaic.Lib.ViewIndex

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device and what is known of them -/

/-- A device's semaphores: its barrier's, its departures' and its landings'. -/
abbrev CIx : Type := Unit ⊕ (Tr ⊕ Tr)

def csem : CIx → SemLoc sig
  | .inl _ => .reg barS
  | .inr (.inl t) => .dma (sendS t)
  | .inr (.inr t) => .dma (recvS t)

def kcell (ci : Dev nD × CIx) : GSem nD τ sig := ((ci.1 : Thread nD τ), csem ci.2)

variable (K : Dev nD × CIx → ℕ)

/-- Every semaphore runs the schedule, and every one is at its first round. -/
def records : sProp 𝕄 :=
  iprop(bigSep Finset.univ (fun ci => cellInv ER (sched m ρ) (K ci) (kcell ci)) ∗ bigSep Finset.univ fun ci => reached ER (kcell ci) 0)

instance records_persistent : BI.Persistent (records m ρ K) := by unfold records; infer_instance

theorem inv_of (ci : Dev nD × CIx) : records m ρ K ⊢ cellInv ER (sched m ρ) (K ci) (kcell ci) := by
  have h : (bigSep Finset.univ fun ci => (cellInv ER (sched m ρ) (K ci) (kcell ci) : sProp 𝕄)) ⊢ cellInv ER (sched m ρ) (K ci) (kcell ci) :=
    bigSep_elim (Finset.mem_univ ci)
  unfold records
  iintro ⟨H, -⟩
  iapply h; iexact H

theorem reached_of (ci : Dev nD × CIx) : records m ρ K ⊢ reached ER (kcell ci) 0 := by
  have h : (bigSep Finset.univ fun ci => (reached ER (kcell ci) 0 : sProp 𝕄)) ⊢ reached ER (kcell ci) 0 := bigSep_elim (Finset.mem_univ ci)
  unfold records
  iintro ⟨-, H⟩
  iapply h; iexact H

/-! ## The state -/

variable (c : Dev nD)

/-- What a device holds for a transfer it has not sent, -/
def idle (t : Tr) : sProp 𝕄 :=
  iprop(anySlot c (sslot t) ∗ anySlot (peer (ax t) c) (rslot t) ∗ dutyTok ER (sendCell c t) 0 0
    ∗ dutyTok ER (recvCell (peer (ax t) c) t) 0 0 ∗ atPos ER (sendCell c t) 0 ∅ 0)
/-- for one in flight, -/
def flying (t : Tr) : sProp 𝕄 := iprop(cred (tallyAt (sendCell c t) () (cred₁ t)) ∗ atPos ER (sendCell c t) 0 ∅ 0)
/-- and for one that departed. -/
def departed (t : Tr) : sProp 𝕄 := iprop(anySlot c (sslot t) ∗ semVal (sendCell c t) 0)

/-- What it holds for a transfer to it that has not been waited for, and for one that has. -/
def awaited (t : Tr) : sProp 𝕄 := iprop(cred (tallyAt (recvCell c t) () (cred₁ t)) ∗ atPos ER (recvCell c t) 0 ∅ 0)
def arrived (t : Tr) : sProp 𝕄 := iprop(recvPay m ρ c t ∗ semVal (recvCell c t) 0)

abbrev outS (s : Fin 3) : Memref sig .tc .vmem (S2 s) .f32 := oM.slice (outRect s) (fun _ => rfl)

/-- A stream of the result block before it is stored, and after. -/
def blank (s : Fin 3) : sProp 𝕄 := iprop(∃ X : (S2 s).Idx → Elt F .f32, ownsTc c (outS s) fullShare X)
def stored (s : Fin 3) : sProp 𝕄 := ownsTc c (outS s) fullShare (fin m ρ c s)

def sendSt (S W : Finset Tr) (t : Tr) : sProp 𝕄 := if t ∈ W then departed c t else if t ∈ S then flying c t else idle c t
def recvSt (R : Finset Tr) (t : Tr) : sProp 𝕄 := if t ∈ R then arrived m ρ c t else awaited c t
def outSt (G : Finset (Fin 3)) (s : Fin 3) : sProp 𝕄 := if s ∈ G then stored m ρ c s else blank c s

/-- The state of device `c` once the transfers in `S` are sent, those in `R` have landed for it, those in `W` have
    departed, and the streams in `G` are stored. -/
def St (Fr : sProp 𝕄) (S R W : Finset Tr) (G : Finset (Fin 3)) : sProp 𝕄 :=
  iprop(records m ρ K ∗ levAts L lv ∗ Fr ∗ (∃ Wt, owes (c : Thread nD τ) (owed c S) Wt) ∗ ownsTc c pM fullShare (prod m ρ c)
    ∗ bigSep Finset.univ (sendSt c S W) ∗ bigSep Finset.univ (recvSt m ρ c R) ∗ bigSep Finset.univ (outSt m ρ c G))

omit [FloatOps F] in
/-- One member of a family is taken out and put back changed. -/
theorem focus {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr fun j hj => h j (Finset.ne_of_mem_erase hj)]
  iintro ⟨H, Hr⟩
  isplitl [H]; · iexact H
  iintro H'
  isplitl [H'] <;> iassumption

/-! ## The steps -/

abbrev 𝒱₀ : Variants := Variants.none

variable {S R W : Finset Tr} {G : Finset (Fin 3)}

/-- A device's programs, and that one runs to `Q`. -/
abbrev Pr (F : FTy → Type) : Type 1 := Prog (TpuEff nD τ sig (Elt F) Λ₀ .tc) PUnit
abbrev runs (P : Pr F) (Q : PUnit → sProp 𝕄) : sProp 𝕄 := wp frame (wpE (defs₀ (F := F)) 𝒱₀ (c : Thread nD τ) none) Set.univ P Q

omit [FloatOps F] in
/-- Owning a memref's elements, by the contents of their buffer. -/
theorem owns_open {sh : Shape} {e : EltTy} (M : Memref sig .tc .vmem sh e) (X : sh.Idx → Elt F e) :
    (ownsTc c M fullShare X : sProp 𝕄)
      = iprop(∃ f : Buf (Elt F) (M.view.loc (c : Thread nD τ)), ⌜M.view.read (Elt F) f = X⌝ ∗ (M.view.loc (c : Thread nD τ) ↦[M.view.set]{fullShare} f)) := rfl

/-- Reading a part of the product. -/
theorem step_part {Fr : sProp 𝕄} {Q : PUnit → sProp 𝕄} (s : Fin 3) (d : Dev nD) {off : Fin 2 → ℕ} (hoff : off = ![128 * d.val, col s])
    {hin : ∀ a, off a + (S2 s).size a ≤ S1024x1024.size a}
    {hl : (pM : Memref sig .tc .vmem S1024x1024 .bf16).view.LoadsAt (Rect.unit (s := S1024x1024) off (S2 s).size hin).toLoadRect}
    {k : ((S2 s).Idx → Elt F .bf16) → Pr F}
    (h : St m ρ K c Fr S R W G ⊢ runs c (k (part m ρ c s d)) Q) :
    St m ρ K c Fr S R W G ⊢ runs c (.op (.load (p := .tc) pM (Rect.unit (s := S1024x1024) off (S2 s).size hin).toLoadRect hl) k) Q := by
  subst hoff
  unfold St at h ⊢
  iintro ⟨#HR, #HL, HF, HO, Hp, HS, HV, HG⟩
  ihave Hp := (Entails.of_eq (owns_open c pM (prod m ρ c))) $$ Hp
  icases Hp with ⟨%f, %hf, Hp⟩
  iapply (wp_load_rect 𝒱₀ (c : Thread nD τ) none Set.univ (m := pM) (r := rowsRect s d)
    (S := (pM : Memref sig .tc .vmem S1024x1024 .bf16).view.set) (View.set_slice_subset _ _)) $$ Hp
  iintro Hp
  rw [show ((pM : Memref sig .tc .vmem S1024x1024 .bf16).access (rowsRect s d)).read (Elt F) f = part m ρ c s d from by rw [part, ← hf]; rfl]
  iapply h
  isplitr; · iexact HR
  isplitr; · iexact HL
  isplitl [HF]; · iexact HF
  isplitl [HO]; · iexact HO
  isplitl [Hp]
  · iapply (Entails.of_eq (owns_open c pM (prod m ρ c)).symm)
    iexists f; isplitr; · (ipureintro; exact hf)
    iexact Hp
  isplitl [HS]; · iexact HS
  isplitl [HV]; · iexact HV
  iexact HG

/-- Reading a landing slot that has been waited for. -/
theorem step_landed {Fr : sProp 𝕄} {Q : PUnit → sProp 𝕄} (t : Tr) (ht : t ∈ R) {hl : (recvM t.1).view.LoadsAt (slotRect t.1 t.2).toLoadRect}
    {k : ((S1 t.1).Idx → Elt F .bf16) → Pr F}
    (h : St m ρ K c Fr S R W G ⊢ runs c (k (lead t.1 (landed m ρ c t))) Q) :
    St m ρ K c Fr S R W G ⊢ runs c (.op (.load (p := .tc) (recvM t.1) (slotRect t.1 t.2).toLoadRect hl) k) Q := by
  have hR : recvSt m ρ c R t = arrived m ρ c t := if_pos ht
  unfold St at h ⊢
  iintro ⟨#HR, #HL, HF, HO, Hp, HS, HV, HG⟩
  ihave HV := (focus (recvSt m ρ c R) (recvSt m ρ c R) t fun _ _ => rfl) $$ HV
  rw [hR]; unfold arrived recvPay
  icases HV with ⟨⟨Ht, Hz⟩, HV⟩
  ihave Ht := (Entails.of_eq (owns_open c (rslot t) _)) $$ Ht
  icases Ht with ⟨%f, %hf, Ht⟩
  iapply (wp_load_rect 𝒱₀ (c : Thread nD τ) none Set.univ (m := recvM t.1) (r := slotRect t.1 t.2) (S := (rslot t).view.set) subset_rfl) $$ Ht
  iintro Ht
  rw [show ((recvM t.1).access (slotRect t.1 t.2)).read (Elt F) f = lead t.1 (landed m ρ c t) from hf]
  iapply h
  isplitr; · iexact HR
  isplitr; · iexact HL
  isplitl [HF]; · iexact HF
  isplitl [HO]; · iexact HO
  isplitl [Hp]; · iexact Hp
  isplitl [HS]; · iexact HS
  isplitr [HG]
  · iapply HV
    isplitl [Ht]
    · iapply (Entails.of_eq (owns_open c (rslot t) _).symm)
      iexists f; isplitr; · (ipureintro; exact hf)
      iexact Ht
    iexact Hz
  iexact HG

theorem sendSt_idle {t : Tr} (hs : t ∉ S) (hw : t ∉ W) : sendSt (F := F) c S W t = idle c t := (if_neg hw).trans (if_neg hs)
theorem sendSt_flying {t : Tr} (hs : t ∈ S) (hw : t ∉ W) : sendSt (F := F) c S W t = flying c t := (if_neg hw).trans (if_pos hs)
theorem sendSt_departed {t : Tr} (hw : t ∈ W) : sendSt (F := F) c S W t = departed c t := if_pos hw

/-- What a landing leaves in a landing slot. -/
theorem landed_read (t : Tr) (fs fd) (hfs : (sslot t).view.read (Elt F) fs = lead t.1 (sent m ρ c t.1 t.2)) :
    (rslot t).view.read (Elt F) ((rdst t).view.write (Elt F) fd ((ssrc t).view.read (Elt F) fs) Finset.univ)
      = lead t.1 (landed m ρ (peer (ax t) c) t) := by
  have h : (ssrc t).view.read (Elt F) fs = flat t.1 ((sslot t).view.read (Elt F) fs) := rfl
  rw [h, hfs, flat_lead, landed, peer_peer]
  funext y
  obtain ⟨x, rfl⟩ := (Shape.reshapeEquiv (S1_squeezes t.1).numel_eq).surjective y
  refine (View.read_write_reshape (rslot t).view _ fd _ x).trans ?_
  exact (congrFun (flat_lead (F := F) (e := .bf16) t.1 (sent m ρ c t.1 t.2)) x).symm

/-- An outgoing slot at any contents is what a departure hands back. -/
theorem send_pay (t : Tr) (fs : Buf (Elt F) ((ssrc t).view.loc (c : Thread nD τ))) :
    ((ssrc t).view.loc (c : Thread nD τ) ↦[(ssrc t).view.set]{fullShare} fs : sProp 𝕄) ⊢ (sched m ρ).payload (sendCell c t) 0 0 := by
  have h : ((ssrc t).view.loc (c : Thread nD τ) ↦[(ssrc t).view.set]{fullShare} fs : sProp 𝕄)
      = ((sslot t).view.loc (c : Thread nD τ) ↦[(sslot t).view.set]{fullShare} fs) := by rw [View.set_reshape]
  rw [payload_send, h]
  unfold sendPay anySlot
  iintro H
  iexists _
  iapply (owns_intro (Val := Elt F) (c : Thread nD τ) (sslot t) fullShare fs)
  iexact H

/-- A landing slot written by a transfer is what a landing hands over. -/
theorem recv_pay (t : Tr) (fs : Buf (Elt F) ((ssrc t).view.loc (c : Thread nD τ))) (fd : Buf (Elt F) ((rdst t).view.loc (peer (ax t) c : Thread nD τ)))
    (hfs : (sslot t).view.read (Elt F) fs = lead t.1 (sent m ρ c t.1 t.2)) :
    ((rdst t).view.loc (peer (ax t) c : Thread nD τ) ↦[(rdst t).view.set]{fullShare}
        ((rdst t).view.write (Elt F) fd ((ssrc t).view.read (Elt F) fs) Finset.univ) : sProp 𝕄)
      ⊢ (sched m ρ).payload (recvCell (peer (ax t) c) t) 0 0 := by
  have hr := landed_read m ρ c t fs fd hfs
  generalize (rdst t).view.write (Elt F) fd ((ssrc t).view.read (Elt F) fs) Finset.univ = g at hr
  have h : ((rdst t).view.loc (peer (ax t) c : Thread nD τ) ↦[(rdst t).view.set]{fullShare} g : sProp 𝕄)
      = ((rslot t).view.loc (peer (ax t) c : Thread nD τ) ↦[(rslot t).view.set]{fullShare} g) := by rw [View.set_reshape]
  rw [payload_recv, h]
  unfold recvPay
  rw [← hr]
  exact owns_intro (Val := Elt F) (peer (ax t) c : Thread nD τ) (rslot t) fullShare g

/-- Sending a transfer: its outgoing slot is read and filled, and the transfer is handed over. -/
theorem step_send {Fr : sProp 𝕄} {Q : PUnit → sProp 𝕄} (t : Tr) (hs : t ∉ S) (hw : t ∉ W) {n : Dev nD} (hn : n = peer (ax t) c)
    {qs qr : DmaSem sig} (hqs : qs = sendS t) (hqr : qr = recvS t)
    {v : (S1 t.1).Idx → Elt F .bf16} (hv : v = lead t.1 (sent m ρ c t.1 t.2))
    {hl : (sendM t.1).view.LoadsAt (slotRect t.1 t.2).toLoadRect} {hx : ((sendM t.1).access (slotRect t.1 t.2)).Stores Finset.univ}
    {hm : (Finset.univ : Finset (slotRect t.1 t.2).shape.Idx) = Finset.univ ∨ ∀ a, (slotRect t.1 t.2).stride a = 1}
    {hsc : (rdst t : Memref sig (Dev.tc n : Thread nD τ).2.kind .vmem (S2 t.1) .bf16).view.ref.isScScratch = false}
    {hsrc : (ssrc t).view.WordExact} {hdst : (rdst t).view.WordExact}
    {hsem : DmaTarget.Typed .vmem (.dma qr) (.remote (Dev.tc n : Thread nD τ) (rdst t : Memref sig .tc .vmem (S2 t.1) .bf16) (.dma qs) hsc)}
    {k : PUnit → Pr F}
    (h : St m ρ K c Fr (insert t S) R W G ⊢ runs c (k ⟨⟩) Q) :
    St m ρ K c Fr S R W G ⊢ runs c (.op (.load (p := .tc) (sendM t.1) (slotRect t.1 t.2).toLoadRect hl) fun _ =>
      .op (.store (p := .tc) (sendM t.1) (slotRect t.1 t.2) v Finset.univ hx hm) fun _ =>
      .op (.enqueueDma (p := .tc) (ssrc t) (.remote (Dev.tc n : Thread nD τ) (rdst t) (.dma qs) hsc) (.dma qr) hsrc hdst hsem) k) Q := by
  subst hn hqs hqr
  unfold St at h ⊢
  iintro ⟨#HR, #HL, HF, ⟨%Wt, HO⟩, Hp, HS, HV, HG⟩
  ihave HS := (focus (sendSt c S W) (sendSt c (insert t S) W) t fun j hj => by
    unfold sendSt; simp only [Finset.mem_insert, hj, false_or]) $$ HS
  rw [sendSt_idle c hs hw, sendSt_flying c (Finset.mem_insert_self t S) hw]
  unfold idle flying anySlot
  icases HS with ⟨⟨⟨%X, Hsrc⟩, ⟨%Y, Hdst⟩, Htk, Htk', Hat⟩, HS⟩
  ihave Hsrc := (Entails.of_eq (owns_open c (sslot t) X)) $$ Hsrc
  icases Hsrc with ⟨%f, %hf, Hsrc⟩
  ihave Hdst := (Entails.of_eq (owns_open (peer (ax t) c) (rslot t) Y)) $$ Hdst
  icases Hdst with ⟨%fd, %hfd, Hdst⟩
  iapply (wp_load_rect 𝒱₀ (c : Thread nD τ) none Set.univ (m := sendM t.1) (r := slotRect t.1 t.2) (S := (sslot t).view.set) subset_rfl) $$ Hsrc
  iintro Hsrc
  iapply (wp_store 𝒱₀ (c : Thread nD τ) none Set.univ (m := sendM t.1) (r := slotRect t.1 t.2) (Mk := Finset.univ) (S := (sslot t).view.set) subset_rfl) $$ Hsrc
  iintro Hsrc
  have hfs : (sslot t).view.read (Elt F) (((sendM t.1).access (slotRect t.1 t.2)).write (Elt F) f v Finset.univ)
      = lead t.1 (sent m ρ c t.1 t.2) := (View.read_write_univ (v := (sslot t).view) f v).trans hv
  iapply (Rounds.wp_send_pointsTo 𝒱₀ ER (sched m ρ) (c : Thread nD τ) none (κ₁ := K (c, .inr (.inl t))) (κ₂ := K (peer (ax t) c, .inr (.inr t)))
    (c' := (peer (ax t) c : Thread nD τ)) (sS := .dma (sendS t)) (sem := .dma (recvS t)) (src := ssrc t) (dst := rdst t) (fs := ((sendM t.1).access (slotRect t.1 t.2)).write (Elt F) f v Finset.univ) (fd := fd) (q := fullShare)
    (r₁ := 0) (r₂ := 0) (d₁ := 0) (d₂ := 0)
    (by rw [duties_send]; exact Finset.mem_singleton_self _) (by rw [duties_recv]; exact Finset.mem_singleton_self _)
    () () (cred₁ t) rfl (amount_send m ρ c t 0) (amount_recv m ρ (peer (ax t) c) t 0) (owed c (insert t S)) (owed_send c hs) (W := Wt)
    (send_pay m ρ c t _) (recv_pay m ρ c t _ fd hfs)) $$ [Hsrc Hdst HO Htk Htk']
  · isplitr; · iapply (inv_of m ρ K (c, .inr (.inl t))); iexact HR
    isplitr; · iapply (inv_of m ρ K (peer (ax t) c, .inr (.inr t))); iexact HR
    isplitl [Hsrc]; · rw [View.set_reshape]; iexact Hsrc
    isplitl [Hdst]; · rw [View.set_reshape]; iexact Hdst
    isplitl [HO]; · iexact HO
    isplitl [Htk]; · iexact Htk
    isplitr; · iapply (reached_of m ρ K (c, .inr (.inl t))); iexact HR
    isplitl [Htk']; · iexact Htk'
    iapply (reached_of m ρ K (peer (ax t) c, .inr (.inr t))); iexact HR
  iintro ⟨Hc, HO⟩
  iapply h
  isplitr; · iexact HR
  isplitr; · iexact HL
  isplitl [HF]; · iexact HF
  isplitl [HO]; · iexists Wt; iexact HO
  isplitl [Hp]; · iexact Hp
  isplitr [HV HG]
  · iapply HS
    isplitl [Hc] <;> iassumption
  isplitl [HV]; · iexact HV
  iexact HG

theorem lv_send (t : Tr) : lv (sendCell c t) () = 0 := if_neg (send_not_recv t)

/-- Waiting for a landing, when only transfers of later phases are owed. -/
theorem step_arrive {Fr : sProp 𝕄} {Q : PUnit → sProp 𝕄} (t : Tr) (ht : t ∉ R) (hS : ∀ t', t' ∉ S → phase t.2 < phase t'.2) {q : DmaSem sig} (hq : q = recvS t)
    {src : Memref sig .tc .vmem (S2 t.1) .bf16} {hsrc : src.view.WordExact} {hdst : (rdst t).view.WordExact} {k : PUnit → Pr F}
    (h : St m ρ K c Fr S (insert t R) W G ⊢ runs c (k ⟨⟩) Q) :
    St m ρ K c Fr S R W G ⊢ runs c (.op (.waitDma2 (p := .tc) q src (rdst t) hsrc hdst) k) Q := by
  subst hq
  unfold St at h ⊢
  iintro ⟨#HR, #HL, HF, ⟨%Wt, HO⟩, Hp, HS, HV, HG⟩
  ihave HV := (focus (recvSt m ρ c R) (recvSt m ρ c (insert t R)) t fun j hj => by
    unfold recvSt; simp only [Finset.mem_insert, hj, false_or]) $$ HV
  rw [show recvSt m ρ c R t = awaited c t from if_neg ht, show recvSt m ρ c (insert t R) t = arrived m ρ c t from if_pos (Finset.mem_insert_self t R)]
  unfold awaited arrived
  icases HV with ⟨⟨Hc, Hat⟩, HV⟩
  iapply (Rounds.wp_wait_rest_token 𝒱₀ ER (sched m ρ) (c : Thread nD τ) none (κ := K (c, .inr (.inr t)))
      (wpE_waitDma2_eq 𝒱₀ (c : Thread nD τ) none Set.univ) (Set.mem_univ _) () (O := owed c S) (W := Wt) (R := 0) (m := 0) (T := ∅)
      (by rw [Nat.zero_add, expect_recv]; rfl)) $$ [Hc HO Hat]
  · isplitr; · iapply (inv_of m ρ K (c, .inr (.inr t))); iexact HR
    isplitl [Hc]; · iexact Hc
    isplitl [HO]; · iexact HO
    isplitr; · iapply (mayWait_of (F := F) c (.dma (recvS t)) S _ (lv_recv c t) fun t' h' => by have := hS t' h'; omega); iexact HL
    iexact Hat
  iintro ⟨HO, Hat, -, Hpay⟩
  ihave Hpay := (Entails.of_eq (rest_recv m ρ c t)) $$ Hpay
  imod (Rounds.cell_close ER (sched m ρ) (Set.mem_univ (K (c, .inr (.inr t)))) (fun h => h) (R := 0 + 1) (duties_later m ρ (recvCell c t))) $$ [Hat] with Hz
  · isplitr; · iapply (inv_of m ρ K (c, .inr (.inr t))); iexact HR
    iexact Hat
  iapply h
  isplitr; · iexact HR
  isplitr; · iexact HL
  isplitl [HF]; · iexact HF
  isplitl [HO]; · iexists _; iexact HO
  isplitl [Hp]; · iexact Hp
  isplitl [HS]; · iexact HS
  isplitr [HG]
  · iapply HV
    isplitl [Hpay] <;> iassumption
  iexact HG

/-- Waiting for a departure. -/
theorem step_depart {Fr : sProp 𝕄} {Q : PUnit → sProp 𝕄} (t : Tr) (hs : t ∈ S) (hw : t ∉ W) {q : DmaSem sig} (hq : q = sendS t)
    {src : Memref sig .tc .vmem (S2 t.1) .bf16} {hsrc : src.view.WordExact} {hdst : (ssrc t).view.WordExact} {k : PUnit → Pr F}
    (h : St m ρ K c Fr S R (insert t W) G ⊢ runs c (k ⟨⟩) Q) :
    St m ρ K c Fr S R W G ⊢ runs c (.op (.waitDma2 (p := .tc) q src (ssrc t) hsrc hdst) k) Q := by
  subst hq
  unfold St at h ⊢
  iintro ⟨#HR, #HL, HF, ⟨%Wt, HO⟩, Hp, HS, HV, HG⟩
  ihave HS := (focus (sendSt c S W) (sendSt c S (insert t W)) t fun j hj => by
    unfold sendSt; simp only [Finset.mem_insert, hj, false_or]) $$ HS
  rw [sendSt_flying c hs hw, sendSt_departed c (Finset.mem_insert_self t W)]
  unfold flying departed
  icases HS with ⟨⟨Hc, Hat⟩, HS⟩
  iapply (Rounds.wp_wait_rest_token 𝒱₀ ER (sched m ρ) (c : Thread nD τ) none (κ := K (c, .inr (.inl t)))
      (wpE_waitDma2_eq 𝒱₀ (c : Thread nD τ) none Set.univ) (Set.mem_univ _) () (O := owed c S) (W := Wt) (R := 0) (m := 0) (T := ∅)
      (by rw [Nat.zero_add, expect_send]; exact credit_send t)) $$ [Hc HO Hat]
  · isplitr; · iapply (inv_of m ρ K (c, .inr (.inl t))); iexact HR
    isplitl [Hc]; · rw [credit_send]; iexact Hc
    isplitl [HO]; · iexact HO
    isplitr; · iapply (mayWait_of (F := F) c (.dma (sendS t)) S _ (lv_send c t) fun t' _ => by omega); iexact HL
    iexact Hat
  iintro ⟨HO, Hat, -, Hpay⟩
  ihave Hpay := (Entails.of_eq (rest_send m ρ c t)) $$ Hpay
  imod (Rounds.cell_close ER (sched m ρ) (Set.mem_univ (K (c, .inr (.inl t)))) (fun h => h) (R := 0 + 1) (duties_later m ρ (sendCell c t))) $$ [Hat] with Hz
  · isplitr; · iapply (inv_of m ρ K (c, .inr (.inl t))); iexact HR
    iexact Hat
  iapply h
  isplitr; · iexact HR
  isplitr; · iexact HL
  isplitl [HF]; · iexact HF
  isplitl [HO]; · iexists _; iexact HO
  isplitl [Hp]; · iexact Hp
  isplitr [HV HG]
  · iapply HS
    isplitl [Hpay]; · unfold sendPay; iexact Hpay
    iexact Hz
  isplitl [HV]; · iexact HV
  iexact HG

/-- Storing a stream of the result. -/
theorem step_out {Fr : sProp 𝕄} {Q : PUnit → sProp 𝕄} (s : Fin 3) (hs : s ∉ G) {v : (S2 s).Idx → Elt F .f32} (hv : v = fin m ρ c s)
    {hl : (oM : Memref sig .tc .vmem S128x1024 .f32).view.LoadsAt (outRect s).toLoadRect}
    {hx : ((oM : Memref sig .tc .vmem S128x1024 .f32).access (outRect s)).Stores Finset.univ}
    {hm : (Finset.univ : Finset (outRect s).shape.Idx) = Finset.univ ∨ ∀ a, (outRect s).stride a = 1} {k : PUnit → Pr F}
    (h : St m ρ K c Fr S R W (insert s G) ⊢ runs c (k ⟨⟩) Q) :
    St m ρ K c Fr S R W G ⊢ runs c (.op (.load (p := .tc) oM (outRect s).toLoadRect hl) fun _ =>
      .op (.store (p := .tc) oM (outRect s) v Finset.univ hx hm) k) Q := by
  subst hv
  unfold St at h ⊢
  iintro ⟨#HR, #HL, HF, HO, Hp, HS, HV, HG⟩
  ihave HG := (focus (outSt m ρ c G) (outSt m ρ c (insert s G)) s fun j hj => by
    unfold outSt; simp only [Finset.mem_insert, hj, false_or]) $$ HG
  rw [show outSt m ρ c G s = blank c s from if_neg hs, show outSt m ρ c (insert s G) s = stored m ρ c s from if_pos (Finset.mem_insert_self s G)]
  unfold blank stored
  icases HG with ⟨⟨%X, Ho⟩, HG⟩
  ihave Ho := (Entails.of_eq (owns_open c (outS s) X)) $$ Ho
  icases Ho with ⟨%f, %hf, Ho⟩
  iapply (wp_load_rect 𝒱₀ (c : Thread nD τ) none Set.univ (m := oM) (r := outRect s) (S := (outS s).view.set) subset_rfl) $$ Ho
  iintro Ho
  iapply (wp_store 𝒱₀ (c : Thread nD τ) none Set.univ (m := oM) (r := outRect s) (Mk := Finset.univ) (S := (outS s).view.set) subset_rfl) $$ Ho
  iintro Ho
  iapply h
  isplitr; · iexact HR
  isplitr; · iexact HL
  isplitl [HF]; · iexact HF
  isplitl [HO]; · iexact HO
  isplitl [Hp]; · iexact Hp
  isplitl [HS]; · iexact HS
  isplitl [HV]; · iexact HV
  iapply HG
  iapply (Entails.of_eq (owns_open c (outS s) (fin m ρ c s)).symm)
  iexists _; isplitr; · (ipureintro; exact View.read_write_univ (v := (outS s).view) f _)
  iexact Ho

end Cert.Exchange

end
-- ==== Proof.Slots.lean ====
/-
The buffers of a device cut into the pieces its body works with, and put back together: each stream's outgoing and
landing buffers are seven slots, and the result block is the columns of the three streams.
-/
module

public import proofs.«01_k».proof.Proof.Steps
public import proofs.«01_k».proof.Proof.Gen.KernelIdeal.Launch
public import Idealize.ShloMosaic.Lib.MemrefSat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Geometry -/

theorem slot_disjoint (s : Fin 3) (k k' : Fin 7) (h : k ≠ k') : Disjoint (slotRect s k).set (slotRect s k').set := by
  refine Rect.disjoint_of_separated _ _ (0 : Fin 3) ?_
  show ((1 : ℕ) = 0 ∨ k.val + 1 * (1 - 1) < k'.val) ∨ ((1 : ℕ) = 0 ∨ k'.val + 1 * (1 - 1) < k.val)
  have : k.val ≠ k'.val := fun e => h (Fin.ext e)
  omega

theorem slot_cover (s : Fin 3) : (Finset.univ : Finset (Fin 7)).biUnion (fun k => (slotRect s k).set) = Finset.univ := by
  ext i
  refine iff_of_true (Finset.mem_biUnion.mpr ⟨(⟨(i (0 : Fin 3)).val, (i (0 : Fin 3)).isLt⟩ : Fin 7), Finset.mem_univ _, ?_⟩) (Finset.mem_univ _)
  unfold slotRect
  rw [Rect.mem_set_unit]
  intro a
  fin_cases a
  · exact ⟨le_rfl, Nat.lt_succ_self _⟩
  · exact ⟨Nat.zero_le _, ((i (1 : Fin 3)).isLt).trans_eq (Nat.zero_add _).symm⟩
  · exact ⟨Nat.zero_le _, ((i (2 : Fin 3)).isLt).trans_eq (Nat.zero_add _).symm⟩

theorem out_disjoint (s s' : Fin 3) (h : s ≠ s') : Disjoint (outRect s).set (outRect s').set := by
  refine Rect.disjoint_of_separated _ _ (1 : Fin 2) ?_
  revert s s'; decide

/-- The stream of a column. -/
def streamOf (n : ℕ) : Fin 3 := if n < 384 then 0 else if n < 768 then 1 else 2

theorem out_cover : (Finset.univ : Finset (Fin 3)).biUnion (fun s => (outRect s).set) = Finset.univ := by
  ext i
  refine iff_of_true (Finset.mem_biUnion.mpr ⟨streamOf (i (1 : Fin 2)).val, Finset.mem_univ _, ?_⟩) (Finset.mem_univ _)
  have h₀ : (i (0 : Fin 2)).val < 128 := (i (0 : Fin 2)).isLt
  have h₁ : (i (1 : Fin 2)).val < 1024 := (i (1 : Fin 2)).isLt
  unfold outRect
  rw [Rect.mem_set_unit]
  intro a
  fin_cases a
  · exact ⟨Nat.zero_le _, h₀.trans_eq (Nat.zero_add _).symm⟩
  · show col (streamOf (i (1 : Fin 2)).val) ≤ (i (1 : Fin 2)).val
      ∧ (i (1 : Fin 2)).val < col (streamOf (i (1 : Fin 2)).val) + wd (streamOf (i (1 : Fin 2)).val)
    unfold streamOf
    split
    · exact ⟨Nat.zero_le _, by show _ < 0 + 384; omega⟩
    · split
      · exact ⟨by show 384 ≤ _; omega, by show _ < 384 + 384; omega⟩
      · exact ⟨by show 768 ≤ _; omega, by show _ < 768 + 256; omega⟩

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Slots -/

omit [FloatOps F] in
theorem anySlot_intro {s : Fin 3} (M : Memref sig .tc .vmem (S1 s) .bf16) (X : (S1 s).Idx → Elt F .bf16) :
    (ownsTc c M fullShare X : sProp 𝕄) ⊢ anySlot c M := by
  unfold anySlot
  iintro H
  iexists X; iexact H

omit [FloatOps F] in
/-- A seven-slot buffer is its slots, -/
theorem slots_split (s : Fin 3) (M : Memref sig .tc .vmem (S7 s) .bf16) :
    iprop(∃ X : (S7 s).Idx → Elt F .bf16, ownsTc c M fullShare X)
      ⊢ (bigSep Finset.univ fun k : Fin 7 => anySlot c (s := s) (M.slice (slotRect s k) (fun _ => rfl)) : sProp 𝕄) := by
  iintro ⟨%X, H⟩
  have h : (ownsTc c M fullShare X : sProp 𝕄)
      ⊢ bigSep Finset.univ fun k : Fin 7 => anySlot c (s := s) (M.slice (slotRect s k) (fun _ => rfl)) :=
    (owns_rects (c : Thread nD τ) M fullShare (slotRect s) (fun _ _ => rfl) (slot_disjoint s) (slot_cover s) X).trans
      (bigSep_mono fun k _ => anySlot_intro (F := F) c _ _)
  iapply h; iexact H

omit [FloatOps F] in
/-- and the slots are the buffer. -/
theorem slots_join [∀ e, Nonempty (Elt F e)] (s : Fin 3) (M : Memref sig .tc .vmem (S7 s) .bf16) :
    (bigSep Finset.univ fun k : Fin 7 => anySlot c (s := s) (M.slice (slotRect s k) (fun _ => rfl)) : sProp 𝕄)
      ⊢ iprop(∃ X : (S7 s).Idx → Elt F .bf16, ownsTc c M fullShare X) := by
  unfold anySlot
  refine (BI.bigSep_exists_pi Finset.univ (fun (k : Fin 7) (X : (S1 s).Idx → Elt F .bf16) =>
    (ownsTc c (M.slice (slotRect s k) (fun _ => rfl)) fullShare X : sProp 𝕄))).trans ?_
  iintro ⟨%Xs, H⟩
  iexists Rect.glue (slotRect s) (slot_cover s) Xs
  have h : (bigSep Finset.univ fun k : Fin 7 => (ownsTc c (M.slice (slotRect s k) (fun _ => rfl)) fullShare (Xs k) : sProp 𝕄))
      ⊢ ownsTc c M fullShare (Rect.glue (slotRect s) (slot_cover s) Xs) := by
    refine (Entails.of_eq (bigSep_congr fun k _ => ?_)).trans
      (owns_of_rects (c : Thread nD τ) M fullShare (slotRect s) (fun _ _ => rfl) (slot_disjoint s) (slot_cover s) _)
    exact congrArg (owns (c : Thread nD τ) (M.slice (slotRect s k) (fun _ => rfl)) fullShare)
      (funext fun y => (Rect.glue_emb (slotRect s) (slot_cover s) (slot_disjoint s) Xs k y).symm)
  iapply h; iexact H

omit [FloatOps F] in
theorem by_stream (Φ : Fin 3 → sProp 𝕄) : bigSep Finset.univ Φ = iprop(Φ 0 ∗ Φ 1 ∗ Φ 2) :=
  bigSep_univ_eq_bigSepL [0, 1, 2] (by decide) (by decide) Φ

/-- A scratch buffer whole, at any contents. -/
def anyBuf (b : Ref sig .tc) : sProp 𝕄 := iprop(∃ f : Buf (Elt F) ((c : Thread nD τ).loc b), ((c : Thread nD τ).loc b) ↦{fullShare} f)

omit [FloatOps F] in
theorem anyBuf_eq (b : Ref sig .tc) : (anyBuf c b : sProp 𝕄)
    = iprop(∃ X : b.ty.Contents (Elt F), owns (c : Thread nD τ) (Memref.whole b) fullShare X) := by
  unfold anyBuf
  exact congrArg _ (funext fun X => (owns_whole (c : Thread nD τ) b fullShare X).symm)

/-- All of a device's scratch buffers, as the body works with them: the product whole, the outgoing and the landing
    buffers slot by slot. -/
def scratch : sProp 𝕄 :=
  iprop((∃ X : S1024x1024.Idx → Elt F .bf16, ownsTc c pM fullShare X) ∗ bigSep Finset.univ (fun t : Tr => anySlot (F := F) c (sslot t))
    ∗ bigSep Finset.univ (fun t : Tr => anySlot (F := F) c (rslot t)))

omit [FloatOps F] in
theorem scratch_split : (Pipeline.scopedRest cfg0.spec c : sProp 𝕄) ⊢ scratch c := by
  rw [scopedRest0_eq]
  show iprop(anyBuf c cc0_scratch0 ∗ anyBuf c cc0_scratch1 ∗ anyBuf c cc0_scratch2 ∗ anyBuf c cc0_scratch3 ∗ anyBuf c cc0_scratch4
    ∗ anyBuf c cc0_scratch5 ∗ anyBuf c cc0_scratch6) ⊢ scratch c
  unfold scratch
  rw [bigSep_univ_prod, bigSep_univ_prod, by_stream, by_stream]
  simp only [anyBuf_eq]
  iintro ⟨H0, H1, H2, H3, H4, H5, H6⟩
  isplitl [H0]; · iexact H0
  isplitl [H1 H3 H5]
  · isplitl [H1]; · iapply (slots_split (F := F) c 0 (sendM 0)); iexact H1
    isplitl [H3]; · iapply (slots_split (F := F) c 1 (sendM 1)); iexact H3
    iapply (slots_split (F := F) c 2 (sendM 2)); iexact H5
  isplitl [H2]; · iapply (slots_split (F := F) c 0 (recvM 0)); iexact H2
  isplitl [H4]; · iapply (slots_split (F := F) c 1 (recvM 1)); iexact H4
  iapply (slots_split (F := F) c 2 (recvM 2)); iexact H6

omit [FloatOps F] in
theorem scratch_join [∀ e, Nonempty (Elt F e)] : scratch c ⊢ (Pipeline.scopedRest cfg0.spec c : sProp 𝕄) := by
  rw [scopedRest0_eq]
  show scratch c ⊢ iprop(anyBuf c cc0_scratch0 ∗ anyBuf c cc0_scratch1 ∗ anyBuf c cc0_scratch2 ∗ anyBuf c cc0_scratch3 ∗ anyBuf c cc0_scratch4
    ∗ anyBuf c cc0_scratch5 ∗ anyBuf c cc0_scratch6)
  unfold scratch
  rw [bigSep_univ_prod, bigSep_univ_prod, by_stream, by_stream]
  simp only [anyBuf_eq]
  iintro ⟨H0, ⟨H1, H3, H5⟩, H2, H4, H6⟩
  isplitl [H0]; · iexact H0
  isplitl [H1]; · iapply (slots_join (F := F) c 0 (sendM 0)); iexact H1
  isplitl [H2]; · iapply (slots_join (F := F) c 0 (recvM 0)); iexact H2
  isplitl [H3]; · iapply (slots_join (F := F) c 1 (sendM 1)); iexact H3
  isplitl [H4]; · iapply (slots_join (F := F) c 1 (recvM 1)); iexact H4
  isplitl [H5]; · iapply (slots_join (F := F) c 2 (sendM 2)); iexact H5
  iapply (slots_join (F := F) c 2 (recvM 2)); iexact H6

/-! ## The result block -/

/-- A device's whole result block: the columns of its three streams. -/
def outAt : S128x1024.Idx → Elt F .f32 := Rect.glue outRect out_cover fun s => fin m ρ c s

theorem outAt_emb (s : Fin 3) (j : (S2 s).Idx) : outAt m ρ c ((outRect s).emb j) = fin m ρ c s j :=
  Rect.glue_emb outRect out_cover out_disjoint (fun s => fin m ρ c s) s j

omit [FloatOps F] in
theorem blank_intro (s : Fin 3) (X : (S2 s).Idx → Elt F .f32) : (ownsTc c (outS s) fullShare X : sProp 𝕄) ⊢ blank c s := by
  unfold blank
  iintro H
  iexists X; iexact H

omit [FloatOps F] in
theorem blank_of (X : S128x1024.Idx → Elt F .f32) : (ownsTc c oM fullShare X : sProp 𝕄) ⊢ bigSep Finset.univ (blank (F := F) c) :=
  (owns_rects (c : Thread nD τ) oM fullShare outRect (fun _ _ => rfl) out_disjoint out_cover X).trans
    (bigSep_mono fun s _ => blank_intro (F := F) c s _)

theorem stored_join [∀ e, Nonempty (Elt F e)] : (bigSep Finset.univ (stored m ρ c) : sProp 𝕄) ⊢ ownsTc c oM fullShare (outAt m ρ c) := by
  refine (Entails.of_eq (bigSep_congr fun s _ => ?_)).trans
    (owns_of_rects (c : Thread nD τ) oM fullShare outRect (fun _ _ => rfl) out_disjoint out_cover (outAt m ρ c))
  unfold stored
  exact congrArg (owns (c : Thread nD τ) (oM.slice (outRect s) (fun _ => rfl)) fullShare) (funext fun j => (outAt_emb m ρ c s j).symm)

end Cert.Exchange

end
-- ==== Proof.Start.lean ====
/-
The start of the body: the three barrier signals, which hand each neighbour the landing slots of the
transfers it sends here, the wait for theirs, the two operand blocks and the product.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ) (c : Dev nD)

/-- A transfer's tokens and position, as its sender holds them from the start. -/
def sendGhost (t : Tr) : sProp 𝕄 :=
  iprop(dutyTok ER (sendCell c t) 0 0 ∗ dutyTok ER (recvCell (peer (ax t) c) t) 0 0 ∗ atPos ER (sendCell c t) 0 ∅ 0)

/-- The right to signal a neighbour's barrier. -/
def barTok (a : Fin 3) : sProp 𝕄 := dutyTok ER (barCell (peer a c)) 0 a

/-- What device `c` holds when its body starts. -/
def Begin : sProp 𝕄 :=
  iprop(records m ρ K ∗ levAts L lv ∗ (∃ Wt, owes (c : Thread nD τ) (O₀ c) Wt)
    ∗ (barTok c 0 ∗ barTok c 1 ∗ barTok c 2) ∗ cred (tallyAt (barCell c) () 3) ∗ atPos ER (barCell c) 0 ∅ 0
    ∗ bigSep Finset.univ (sendGhost (F := F) c) ∗ bigSep Finset.univ (awaited (F := F) c)
    ∗ bigSep Finset.univ (fun t : Tr => anySlot (F := F) c (sslot t)) ∗ bigSep Finset.univ (fun t : Tr => anySlot (F := F) c (rslot t))
    ∗ ownsTc c xM fullShare (xstg m ρ c) ∗ ownsTc c wM fullShare (wstg m ρ c) ∗ (∃ X, ownsTc c pM fullShare X)
    ∗ bigSep Finset.univ (blank (F := F) c))

/-- What it keeps unchanged from its last barrier step to its end. -/
def kept : sProp 𝕄 := iprop(ownsTc c xM fullShare (xstg m ρ c) ∗ ownsTc c wM fullShare (wstg m ρ c) ∗ semVal (barCell c) 0)

omit [FloatOps F] in
/-- A neighbour is handed the landing slots of the transfers it sends along the axis. -/
theorem barPay_peer (a : Fin 3) : (barPay (peer a c) a : sProp 𝕄)
    = bigSep (Finset.univ.filter fun t : Tr => ax t = a) fun t => anySlot (F := F) c (rslot t) := by
  unfold barPay
  exact bigSep_congr fun t ht => by rw [(Finset.mem_filter.mp ht).2, peer_peer]

omit [FloatOps F] in
/-- The landing slots, by the axis of their transfers. -/
theorem slots_by_axis : (bigSep Finset.univ (fun t : Tr => anySlot (F := F) c (rslot t)) : sProp 𝕄)
    = iprop(barPay (peer 0 c) 0 ∗ barPay (peer 1 c) 1 ∗ barPay (peer 2 c) 2) := by
  rw [bigSep_fiberwise Finset.univ ax, show Finset.univ.image ax = Finset.univ by decide, bigSep_univ_at _ 0,
    show Finset.univ.erase (0 : Fin 3) = {1, 2} by decide, bigSep_insert (by decide), bigSep_singleton, barPay_peer, barPay_peer, barPay_peer]
  rfl

omit [FloatOps F] in
/-- What a sender holds for the transfers it has not sent, from its own slots and its neighbours'. -/
theorem idle_of (t : Tr) : iprop(sendGhost c t ∗ anySlot c (sslot t) ∗ anySlot (peer (ax t) c) (rslot t)) ⊢ (idle (F := F) c t : sProp 𝕄) := by
  unfold sendGhost idle
  iintro ⟨⟨H1, H2, H3⟩, H4, H5⟩
  isplitl [H4]; · iexact H4
  isplitl [H5]; · iexact H5
  isplitl [H1]; · iexact H1
  isplitl [H2] <;> iassumption

omit [FloatOps F] in
theorem idles_of : iprop(bigSep Finset.univ (sendGhost (F := F) c) ∗ bigSep Finset.univ (fun t : Tr => anySlot (F := F) c (sslot t))
      ∗ bigSep Finset.univ (fun t : Tr => anySlot (F := F) (peer (ax t) c) (rslot t)))
    ⊢ (bigSep Finset.univ (idle (F := F) c) : sProp 𝕄) := by
  rw [← bigSep_sep', ← bigSep_sep']
  exact bigSep_mono fun t _ => idle_of c t

/-- One barrier signal along axis `a`. -/
theorem bar_signal (a : Fin 3) {n : Dev nD} (hn : n = peer a c) {O O' : CellTallies nD τ sig Unit} (hO : O' = O + tallyAt (barCell (peer a c)) () 1)
    {Wt : Waits sig Unit} {k : PUnit → Pr F} {Q : PUnit → sProp 𝕄} :
    iprop(records m ρ K ∗ owes (c : Thread nD τ) O' Wt ∗ barTok c a ∗ barPay (peer a c) a)
      ⊢ iprop((owes (c : Thread nD τ) O Wt -∗ runs c (k ⟨⟩) Q) -∗ runs c (.op (.semSignal (p := .tc) (n, .tc) barS ((1 : ℕ) : ℤ)) k) Q) := by
  subst hn
  unfold barTok
  iintro ⟨#HR, HO, Ht, Hp⟩ Hk
  iapply (Rounds.wp_signal 𝒱₀ ER (sched m ρ) (c : Thread nD τ) none (dst := (peer a c : Thread nD τ)) (κ := K (peer a c, .inl ()))
      (d := a) (by rw [duties_bar]; exact Finset.mem_univ _) (amount_bar m ρ (peer a c) a) () O hO) $$ [HO Ht Hp]
  · isplitr; · iapply (inv_of m ρ K (peer a c, .inl ())); iexact HR
    isplitl [HO]; · iexact HO
    isplitl [Ht]; · iexact Ht
    isplitl [Hp]; · rw [payload_bar]; iexact Hp
    iapply (reached_of m ρ K (peer a c, .inl ())); iexact HR
  iexact Hk

omit [FloatOps F] in
theorem zero₂ : (![0, 0] : Fin 2 → Nat) = fun _ => 0 := funext fun a => by fin_cases a <;> rfl

/-- The start of the body brings a device to the state where nothing is sent. -/
theorem step_begin {Q : PUnit → sProp 𝕄} {n₁ n₂ n₃ : Dev nD} {q : Sem sig} {u v : ℤ} (hq : q = barS) (hu : u = ((1 : ℕ) : ℤ)) (hv : v = ((3 : ℕ) : ℤ))
    (h₁ : n₁ = peer 0 c) (h₂ : n₂ = peer 1 c) (h₃ : n₃ = peer 2 c)
    {bx bw bp lx lw lp hx hm} {k : (S1024x128.Idx → Elt F .bf16) → (S128x1024.Idx → Elt F .bf16) → PUnit → Pr F}
    (h : ∀ x w, St m ρ K c (kept m ρ c) ∅ ∅ ∅ ∅ ⊢ runs c (k x w ⟨⟩) Q) :
    Begin m ρ K c ⊢ runs c (.op (.semSignal (p := .tc) (n₁, .tc) q u) fun _ =>
      .op (.semSignal (p := .tc) (n₂, .tc) q u) fun _ =>
      .op (.semSignal (p := .tc) (n₃, .tc) q u) fun _ =>
      .op (.semWait (p := .tc) q v) fun _ =>
      .op (.load (p := .tc) xM (Rect.unit (s := S1024x128) ![0, 0] S1024x128.size bx).toLoadRect lx) fun x =>
      .op (.load (p := .tc) wM (Rect.unit (s := S128x1024) ![0, 0] S128x1024.size bw).toLoadRect lw) fun w =>
      .op (.load (p := .tc) pM (Rect.unit (s := S1024x1024) ![0, 0] S1024x1024.size bp).toLoadRect lp) fun _ =>
      .op (.store (p := .tc) pM (Rect.unit (s := S1024x1024) ![0, 0] S1024x1024.size bp) (k0_pay2 (k0_pay1 x w)) Finset.univ hx hm) (k x w)) Q := by
  subst hq hu hv
  unfold Begin
  rw [slots_by_axis]
  iintro ⟨#HR, #HL, ⟨%Wt, HO⟩, ⟨Ht0, Ht1, Ht2⟩, Hc, Hat, HG, HV, HS, ⟨Hp0, Hp1, Hp2⟩, Hx, Hw, ⟨%P, Hp⟩, Ho⟩
  iapply (bar_signal m ρ K c 0 h₁ (O' := O₀ c) rfl) $$ [HO Ht0 Hp0]
  · isplitr; · iexact HR
    isplitl [HO]; · iexact HO
    isplitl [Ht0] <;> iassumption
  iintro HO
  iapply (bar_signal m ρ K c 1 h₂ rfl) $$ [HO Ht1 Hp1]
  · isplitr; · iexact HR
    isplitl [HO]; · iexact HO
    isplitl [Ht1] <;> iassumption
  iintro HO
  iapply (bar_signal m ρ K c 2 h₃ rfl) $$ [HO Ht2 Hp2]
  · isplitr; · iexact HR
    isplitl [HO]; · iexact HO
    isplitl [Ht2] <;> iassumption
  iintro HO
  iapply (Rounds.wp_wait_rest_token 𝒱₀ ER (sched m ρ) (c : Thread nD τ) none (κ := K (c, .inl ()))
      (wpE_semWait_eq 𝒱₀ (c : Thread nD τ) none Set.univ) (Set.mem_univ _) () (O := owed c ∅) (W := Wt) (R := 0) (m := 0) (T := ∅)
      (by rw [expect_bar])) $$ [Hc HO Hat]
  · isplitr; · iapply (inv_of m ρ K (c, .inl ())); iexact HR
    isplitl [Hc]; · iexact Hc
    isplitl [HO]; · iexact HO
    isplitr; · iapply (mayWait_of (F := F) c (.reg barS) ∅ 1 rfl fun t' _ => by omega); iexact HL
    iexact Hat
  iintro ⟨HO, Hat, -, Hpay⟩
  ihave Hpay := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (inv_of m ρ K (c, .inl ())); iexact HR
    iexact Hat
  ihave Hx := (Entails.of_eq (owns_open c xM (xstg m ρ c))) $$ Hx
  icases Hx with ⟨%fx, %hfx, Hx⟩
  ihave Hw := (Entails.of_eq (owns_open c wM (wstg m ρ c))) $$ Hw
  icases Hw with ⟨%fw, %hfw, Hw⟩
  ihave Hp := (Entails.of_eq (owns_open c pM P)) $$ Hp
  icases Hp with ⟨%fp, %hfp, Hp⟩
  iapply (wp_load 𝒱₀ (c : Thread nD τ) none Set.univ (m := xM) (View.setOn_subset_set _ _)) $$ Hx; iintro Hx
  iapply (wp_load 𝒱₀ (c : Thread nD τ) none Set.univ (m := wM) (View.setOn_subset_set _ _)) $$ Hw; iintro Hw
  iapply (wp_load 𝒱₀ (c : Thread nD τ) none Set.univ (m := pM) (View.setOn_subset_set _ _)) $$ Hp; iintro Hp
  iapply (wp_store 𝒱₀ (c : Thread nD τ) none Set.univ (m := pM) (r := Rect.unit (s := S1024x1024) ![0, 0] S1024x1024.size bp) (Mk := Finset.univ) (S := (pM : Memref sig .tc .vmem S1024x1024 .bf16).view.set)
    (View.set_slice_subset _ _)) $$ Hp
  iintro Hp
  have ex : (xM : Memref sig .tc .vmem S1024x128 .bf16).view.readAt (Elt F) (Rect.unit (s := S1024x128) ![0, 0] S1024x128.size bx).toLoadRect fx = xstg m ρ c :=
    (Memref.readAt_unit_zero (Elt F) cc0_stg0_0 zero₂ _ fx).trans hfx
  have ew : (wM : Memref sig .tc .vmem S128x1024 .bf16).view.readAt (Elt F) (Rect.unit (s := S128x1024) ![0, 0] S128x1024.size bw).toLoadRect fw = wstg m ρ c :=
    (Memref.readAt_unit_zero (Elt F) cc0_stg1_0 zero₂ _ fw).trans hfw
  have ep (v : FVec F S1024x1024 .bf16) : (pM : Memref sig .tc .vmem S1024x1024 .bf16).view.read (Elt F)
      (((pM : Memref sig .tc .vmem S1024x1024 .bf16).access (Rect.unit (s := S1024x1024) ![0, 0] S1024x1024.size bp)).write (Elt F) fp v Finset.univ) = v :=
    congrArg ((pM : Memref sig .tc .vmem S1024x1024 .bf16).view.read (Elt F)) (Memref.write_access_unit_zero_univ (Elt F) cc0_scratch0 zero₂ bp fp v)
  rw [ex, ew]
  iapply (h _ _)
  unfold St kept
  isplitr; · iexact HR
  isplitr; · iexact HL
  isplitl [Hx Hw Hz]
  · isplitl [Hx]
    · iapply (Entails.of_eq (owns_open c xM (xstg m ρ c)).symm)
      iexists fx; isplitr; · (ipureintro; exact hfx)
      iexact Hx
    isplitl [Hw]
    · iapply (Entails.of_eq (owns_open c wM (wstg m ρ c)).symm)
      iexists fw; isplitr; · (ipureintro; exact hfw)
      iexact Hw
    iexact Hz
  isplitl [HO]; · iexists _; iexact HO
  isplitl [Hp]
  · iapply (Entails.of_eq (owns_open c pM (prod m ρ c)).symm)
    iexists _; isplitr; · (ipureintro; exact ep _)
    iexact Hp
  isplitl [HG HS Hpay]
  · iapply (idles_of (F := F) c)
    isplitl [HG]; · iexact HG
    isplitl [HS] <;> iassumption
  isplitl [HV]; · iexact HV
  iexact Ho

end Cert.Exchange

end
-- ==== Proof.Ghost.lean ====
/-
What the launch hands the devices: every semaphore's schedule is set up, the rights to signal and to send are dealt to
the devices that use them, and each device gets the credit of what is owed to it.
-/
module

public import proofs.«01_k».proof.Proof.Slots
public import proofs.«01_k».proof.Proof.Start

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and rights -/

/-- The transfers' semaphores, which are the kernel's own. -/
def osem : Tr ⊕ Tr → SemLoc sig
  | .inl t => .dma (sendS t)
  | .inr t => .dma (recvS t)

theorem csem_injective : Function.Injective csem := by unfold Function.Injective; decide +kernel

theorem kcell_injective : Function.Injective kcell := fun a b h =>
  Prod.ext (congrArg (fun g : GSem nD τ sig => g.1.1) h) (csem_injective (congrArg Prod.snd h))

/-- The duties of a device's semaphores: its barrier's three and one for each end of each transfer. -/
abbrev DIx : Type := Fin 3 ⊕ (Tr ⊕ Tr)

def dcell : DIx → CIx
  | .inl _ => .inl ()
  | .inr x => .inr x
def dnum : DIx → Fin 3
  | .inl a => a
  | .inr _ => 0

theorem duty_injective : Function.Injective fun j : DIx => (dcell j, dnum j)
  | .inl a, .inl b, h => congrArg Sum.inl (congrArg Prod.snd h)
  | .inr x, .inr y, h => congrArg Sum.inr (Sum.inr_injective (congrArg Prod.fst h))
  | .inl _, .inr _, h => nomatch congrArg Prod.fst h
  | .inr _, .inl _, h => nomatch congrArg Prod.fst h

def tokOf (cj : Dev nD × DIx) : GSem nD τ sig × ℕ × Fin 3 := (kcell (cj.1, dcell cj.2), 0, dnum cj.2)

theorem tokOf_injective : Function.Injective tokOf := fun a b h => by
  have h₁ : (a.1, dcell a.2) = (b.1, dcell b.2) :=
    kcell_injective (congrArg (fun x : GSem nD τ sig × ℕ × Fin 3 => x.1) h)
  have h₂ : dnum a.2 = dnum b.2 := congrArg (fun x : GSem nD τ sig × ℕ × Fin 3 => x.2.2) h
  exact Prod.ext (congrArg (fun x : Dev nD × CIx => x.1) h₁)
    (duty_injective (Prod.ext (congrArg (fun x : Dev nD × CIx => x.2) h₁) h₂))

def allCells : Finset (GSem nD τ sig) := Finset.univ.map ⟨kcell, kcell_injective⟩
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of a device's own semaphores. -/
def toks (c : Dev nD) : sProp 𝕄 :=
  iprop(bigSep Finset.univ (fun a : Fin 3 => dutyTok ER (barCell c) 0 a)
    ∗ bigSep Finset.univ (fun t : Tr => dutyTok ER (sendCell c t) 0 0) ∗ bigSep Finset.univ (fun t : Tr => dutyTok ER (recvCell c t) 0 0))

/-- The duty tokens of the duties a device pays. -/
def payToks (c : Dev nD) : sProp 𝕄 :=
  iprop(bigSep Finset.univ (barTok (F := F) c)
    ∗ bigSep Finset.univ (fun t : Tr => dutyTok ER (sendCell c t) 0 0) ∗ bigSep Finset.univ (fun t : Tr => dutyTok ER (recvCell (peer (ax t) c) t) 0 0))

/-- What the launch deals a device, -/
def G (c : Dev nD) : sProp 𝕄 :=
  iprop((bigSep Finset.univ fun i : CIx => roundState ER (sched m ρ) (kcell (c, i)) 0)
    ∗ (bigSep Finset.univ fun i : CIx => iprop(atPos ER (kcell (c, i)) 0 ∅ 0 ∗ reached ER (kcell (c, i)) 0)) ∗ toks c)

/-- and what the devices make of it together. -/
def G' (c : Dev nD) : sProp 𝕄 :=
  iprop(∃ K, records m ρ K ∗ (bigSep Finset.univ fun i : CIx => atPos ER (kcell (c, i)) 0 ∅ 0) ∗ payToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the runtime's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The transfers' semaphores at zero. -/
theorem ownSems0_eq (c : Dev nD) : (Pipeline.ownSems0 (Ix := Unit) (Name := ℕ) (U := UU) (Lvl := ℕ) (Val := Elt F) (τ := τ) osem c : sProp 𝕄)
    = iprop(bigSep Finset.univ (fun t : Tr => semVal (sendCell c t) 0) ∗ bigSep Finset.univ (fun t : Tr => semVal (recvCell c t) 0)) := by
  unfold Pipeline.ownSems0; rw [bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  have h : (bigSep Finset.univ fun i : CIx => (semVal (kcell (c, i)) 0 : sProp 𝕄))
      = iprop(semVal (barCell c) 0 ∗ bigSep Finset.univ (fun t : Tr => semVal (sendCell c t) 0) ∗ bigSep Finset.univ (fun t : Tr => semVal (recvCell c t) 0)) := by
    rw [bigSep_univ_sum, bigSep_univ_sum, bigSep_univ_of_subsingleton ()]; rfl
  rw [ownSems0_eq, unscopedSems0_eq, h]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CIx => iprop(∃ κ : ℕ, cellInv ER (sched m ρ) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m ρ) (kcell (c, i)) 0)
      ⊢ (|={Set.univ}=> bigSep Finset.univ fun i => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A family of rights over devices, each handed to a neighbour. -/
theorem around {I : Type} [Fintype I] (a : I → Fin 3) (Φ : Dev nD → I → sProp 𝕄) :
    (bigSep Finset.univ fun c => bigSep Finset.univ fun i => Φ c i)
      = bigSep Finset.univ fun c => bigSep Finset.univ fun i => Φ (peer (a i) c) i := by
  rw [bigSep_univ_comm, bigSep_univ_comm fun c i => Φ (peer (a i) c) i]
  exact bigSep_congr fun i _ => bigSep_univ_equiv (peerEquiv (a i)) fun c => Φ c i

theorem toks_around : (bigSep Finset.univ fun c : Dev nD => (toks c : sProp 𝕄)) ⊢ bigSep Finset.univ fun c : Dev nD => payToks c := by
  unfold toks payToks
  rw [bigSep_sep', bigSep_sep', bigSep_sep', bigSep_sep', around id fun c a => (dutyTok ER (barCell c) 0 a : sProp 𝕄),
    around ax fun c t => (dutyTok ER (recvCell c t) 0 0 : sProp 𝕄)]
  exact Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (sched m ρ) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CIx => iprop(∃ κ : ℕ, cellInv ER (sched m ρ) κ (kcell ci))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (sched m ρ) κ (kcell ci) : sProp 𝕄))) $$ HI
  icases HK with ⟨%K, #HI⟩
  ihave Htk := (toks_around (F := F)) $$ Htok
  have hG (c : Dev nD) : iprop(records m ρ K ∗ (bigSep Finset.univ fun i : CIx => atPos ER (kcell (c, i)) 0 ∅ 0) ∗ payToks c) ⊢ G' m ρ c := by
    unfold G'; iintro H; iexists K; iexact H
  iapply (with_records (R := records m ρ K) fun c _ => hG c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credit -/

theorem bar_eq_iff {a b : Dev nD} : barCell a = barCell b ↔ a = b :=
  ⟨fun h => congrArg (fun g : GSem nD τ sig => g.1.1) h, fun h => h ▸ rfl⟩

theorem recv_eq_iff {a b : Dev nD} {t t' : Tr} : recvCell a t = recvCell b t' ↔ a = b ∧ t = t' := by
  refine ⟨fun h => ⟨congrArg (fun g : GSem nD τ sig => g.1.1) h, ?_⟩, fun h => by rw [h.1, h.2]⟩
  have h₁ : csem (.inr (.inr t)) = csem (.inr (.inr t')) := congrArg Prod.snd h
  exact Sum.inr_injective (Sum.inr_injective (csem_injective h₁))

theorem bar_ne_recv (a b : Dev nD) (t : Tr) : barCell a ≠ recvCell b t := fun h => nomatch congrArg Prod.snd h

theorem peer_iff (a : Fin 3) (c d : Dev nD) : c = peer a d ↔ d = peer a c :=
  ⟨fun h => by rw [h, peer_peer], fun h => by rw [h, peer_peer]⟩

/-- What device `d` owes device `c`'s barrier. -/
theorem owed_bar (d c : Dev nD) : O₀ d (barCell c) () = ∑ a : Fin 3, if d = peer a c then 1 else 0 := by
  have h₀ : owed d ∅ (barCell c) () = 0 := by
    unfold owed
    rw [Finset.sum_apply, Finsupp.finset_sum_apply]
    exact Finset.sum_eq_zero fun t _ => by rw [tallyAt_apply, if_neg fun h => bar_ne_recv _ _ _ h.1]
  have h₁ (a : Fin 3) : (tallyAt (barCell (peer a d)) () 1 : CellTallies nD τ sig Unit) (barCell c) () = if d = peer a c then 1 else 0 := by
    rw [tallyAt_apply]
    exact if_congr ⟨fun h => (peer_iff a c d).mp (bar_eq_iff.mp h.1), fun h => ⟨bar_eq_iff.mpr ((peer_iff a c d).mpr h), rfl⟩⟩ rfl rfl
  unfold O₀
  simp only [Pi.add_apply, Finsupp.add_apply]
  rw [h₀, h₁, h₁, h₁, Fin.sum_univ_three]
  omega

/-- What device `d` owes device `c`'s landings. -/
theorem owed_recv (d c : Dev nD) (t : Tr) : O₀ d (recvCell c t) () = if d = peer (ax t) c then cred₁ t else 0 := by
  have h₀ : owed d ∅ (recvCell c t) () = if d = peer (ax t) c then cred₁ t else 0 := by
    unfold owed
    rw [Finset.sum_apply, Finsupp.finset_sum_apply, Finset.compl_empty, Finset.sum_eq_single t]
    · rw [tallyAt_apply]
      exact if_congr ⟨fun h => (peer_iff _ c d).mp (recv_eq_iff.mp h.1).1, fun h => ⟨recv_eq_iff.mpr ⟨(peer_iff _ c d).mpr h, rfl⟩, rfl⟩⟩ rfl rfl
    · exact fun t' _ ht => by rw [tallyAt_apply, if_neg fun h => ht (recv_eq_iff.mp h.1).2.symm]
    · exact fun h => absurd (Finset.mem_univ t) h
  have h₁ (a : Fin 3) : (tallyAt (barCell (peer a d)) () 1 : CellTallies nD τ sig Unit) (recvCell c t) () = 0 := by
    rw [tallyAt_apply, if_neg fun h => bar_ne_recv _ _ _ h.1.symm]
  unfold O₀
  simp only [Pi.add_apply, Finsupp.add_apply]
  rw [h₀, h₁, h₁, h₁, add_zero, add_zero, add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun a _ => (Finset.sum_ite_eq' Finset.univ (peer a c) fun _ => 1).trans (if_pos (Finset.mem_univ _))]
  rfl

theorem launch_recv (c : Dev nD) (t : Tr) :
    tallyOn (recvCell c t) (launchCredit (Pipeline.owing O₀) 0 (recvCell c t)) = (tallyAt (recvCell c t) () (cred₁ t) : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (peer (ax t) c) fun _ => cred₁ t, if_pos (Finset.mem_univ _)]

/-- What a device is owed on one of its semaphores. -/
abbrev due (c : Dev nD) (sm : SemLoc sig) : sProp 𝕄 :=
  cred (tallyOn ((c.tc : Thread nD τ), sm) (launchCredit (Pipeline.owing O₀) 0 ((c.tc : Thread nD τ), sm)))

theorem creds_split (c : Dev nD) :
    (Pipeline.launchCred O₀ c : sProp 𝕄)
      ⊢ iprop(due c (.reg barS) ∗ (bigSep Finset.univ fun t : Tr => due c (.dma (sendS t))) ∗ bigSep Finset.univ fun t : Tr => due c (.dma (recvS t))) := by
  have h : (bigSep ((Finset.univ : Finset CIx).map ⟨csem, csem_injective⟩) fun sm => (due c sm : sProp 𝕄))
      = iprop(due c (.reg barS) ∗ (bigSep Finset.univ fun t : Tr => due c (.dma (sendS t))) ∗ bigSep Finset.univ fun t : Tr => due c (.dma (recvS t))) := by
    rw [bigSep_map, bigSep_univ_sum, bigSep_univ_sum, bigSep_univ_of_subsingleton ()]; rfl
  exact (bigSep_subset (Finset.subset_univ _)).trans (Entails.of_eq h)

theorem creds (c : Dev nD) :
    (Pipeline.launchCred O₀ c : sProp 𝕄)
      ⊢ iprop(cred (tallyAt (barCell c) () 3) ∗ bigSep Finset.univ fun t : Tr => cred (tallyAt (recvCell c t) () (cred₁ t))) := by
  have hR : (bigSep Finset.univ fun t : Tr => (due c (.dma (recvS t)) : sProp 𝕄)) = bigSep Finset.univ fun t : Tr => cred (tallyAt (recvCell c t) () (cred₁ t)) :=
    bigSep_congr fun t _ => congrArg cred (launch_recv c t)
  have hB : (due c (.reg barS) : sProp 𝕄) = cred (tallyAt (barCell c) () 3) := congrArg cred (launch_bar c)
  rw [← hR, ← hB]
  refine (creds_split c).trans ?_
  iintro ⟨HB, -, HR⟩
  isplitl [HB]
  · iexact HB
  · iexact HR

end Cert.Exchange

end
-- ==== Proof.Body.lean ====
/-
The body of the kernel, step by step: from the state in which a device starts it to the state in which every
transfer is sent, landed and departed and every stream of the result is stored.
-/
module

public import proofs.«01_k».proof.Proof.Start
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ) (c : Dev nD)

/-- Sending a device's own share of some rows: the share is read off the product and sent. -/
theorem step_own {Fr : sProp 𝕄} {Q : PUnit → sProp 𝕄} {S R W : Finset Tr} {G : Finset (Fin 3)} (t : Tr) (hs : t ∉ S) (hw : t ∉ W)
    {off : Fin 2 → ℕ} (hoff : off = ![128 * (rowsOf t.1 t.2 c).val, col t.1]) {n : Dev nD} (hn : n = peer (ax t) c)
    {qs qr : DmaSem sig} (hqs : qs = sendS t) (hqr : qr = recvS t) {pf : ((S2 t.1).Idx → Elt F .bf16) → (S1 t.1).Idx → Elt F .bf16}
    (hpf : ∀ v, pf v = lead t.1 v) (hsent : sent m ρ c t.1 t.2 = own m ρ c t.1 t.2)
    {hin : ∀ a, off a + (S2 t.1).size a ≤ S1024x1024.size a} {hl' hl hx hm hsc hsrc hdst hsem} {k : PUnit → Pr F}
    (h : St m ρ K c Fr (insert t S) R W G ⊢ runs c (k ⟨⟩) Q) :
    St m ρ K c Fr S R W G ⊢ runs c (.op (.load (p := .tc) pM (Rect.unit (s := S1024x1024) off (S2 t.1).size hin).toLoadRect hl') fun v =>
      .op (.load (p := .tc) (sendM t.1) (slotRect t.1 t.2).toLoadRect hl) fun _ =>
      .op (.store (p := .tc) (sendM t.1) (slotRect t.1 t.2) (pf v) Finset.univ hx hm) fun _ =>
      .op (.enqueueDma (p := .tc) (ssrc t) (.remote (Dev.tc n : Thread nD τ) (rdst t) (.dma qs) hsc) (.dma qr) hsrc hdst hsem) k) Q :=
  step_part m ρ K c t.1 (rowsOf t.1 t.2 c) hoff
    (step_send m ρ K c t hs hw hn hqs hqr ((hpf _).trans (congrArg (lead t.1) hsent.symm)) h)

/-- The sums the kernel sends, through the slots they are read from. -/
theorem sum_lead (s : Fin 3) (v w : FVec F (S2 s) .bf16) :
    lead (F := F) (e := .bf16) s (addf v (flat (F := F) (e := .bf16) s (lead (F := F) (e := .bf16) s w))) = lead (F := F) (e := .bf16) s (addf v w) := by
  rw [flat_lead]
theorem sum_lead₂ (s : Fin 3) (v w x : FVec F (S2 s) .bf16) :
    lead (F := F) (e := .bf16) s (addf (addf v (flat (F := F) (e := .bf16) s (lead (F := F) (e := .bf16) s w)))
        (flat (F := F) (e := .bf16) s (lead (F := F) (e := .bf16) s x)))
      = lead (F := F) (e := .bf16) s (addf (addf v w) x) := by
  rw [flat_lead, flat_lead]

/-- The result it stores, through the slots it is read from. -/
theorem act_total (s : Fin 3) (v a b d : FVec F (S2 s) .bf16) :
    act s (total s v (flat (F := F) (e := .bf16) s (lead (F := F) (e := .bf16) s a)) (flat (F := F) (e := .bf16) s (lead (F := F) (e := .bf16) s b))
        (flat (F := F) (e := .bf16) s (lead (F := F) (e := .bf16) s d)))
      = act s (total s v a b d) := by
  rw [flat_lead, flat_lead, flat_lead]

set_option maxHeartbeats 4000000 in
set_option maxRecDepth 65536 in
/-- The whole body. -/
theorem body_run {Q : PUnit → sProp 𝕄} (h : St m ρ K c (kept m ρ c) Finset.univ Finset.univ Finset.univ Finset.univ ⊢ Q ⟨⟩) :
    Begin m ρ K c ⊢ runs c (cc0_body (F := F) xM (Memref.isWhole_whole _) wM (Memref.isWhole_whole _) oM (Memref.isWhole_whole _)
      pM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _) cc0_scratch7 cc0_scratch8) Q := by
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel,
    semSignalWord, semWaitWord, Prog.lift, Prog.bind_op, Prog.bind_ret, Prog.pure_eq_ret, runs, wp_deviceId]
  refine step_begin m ρ K c rfl (by decide) (by decide) (devs_barrier c).1 (devs_barrier c).2.1 (devs_barrier c).2.2 fun x w => ?_
  refine step_own m ρ K c (2, 0) (by decide) (by decide) (off1_eq c).1 (devs_first2 c).1 (sem_send 2 0 _) (sem_recv 2 0 _) (fun _ => rfl) rfl ?_
  refine step_own m ρ K c (2, 1) (by decide) (by decide) (off1_eq c).2.1 (devs_first2 c).2.1 (sem_send 2 1 _) (sem_recv 2 1 _) (fun _ => rfl) rfl ?_
  refine step_own m ρ K c (2, 2) (by decide) (by decide) (off1_eq c).2.2.1 (devs_first2 c).2.2.1 (sem_send 2 2 _) (sem_recv 2 2 _) (fun _ => rfl) rfl ?_
  refine step_own m ρ K c (2, 3) (by decide) (by decide) (off1_eq c).2.2.2 (devs_first2 c).2.2.2 (sem_send 2 3 _) (sem_recv 2 3 _) (fun _ => rfl) rfl ?_
  refine step_own m ρ K c (0, 0) (by decide) (by decide) (off2_eq c).1 (devs_first0 c).1 (sem_send 0 0 _) (sem_recv 0 0 _) (fun _ => rfl) rfl ?_
  refine step_own m ρ K c (0, 1) (by decide) (by decide) (off2_eq c).2.1 (devs_first0 c).2.1 (sem_send 0 1 _) (sem_recv 0 1 _) (fun _ => rfl) rfl ?_
  refine step_own m ρ K c (0, 2) (by decide) (by decide) (off2_eq c).2.2.1 (devs_first0 c).2.2.1 (sem_send 0 2 _) (sem_recv 0 2 _) (fun _ => rfl) rfl ?_
  refine step_own m ρ K c (0, 3) (by decide) (by decide) (off2_eq c).2.2.2 (devs_first0 c).2.2.2 (sem_send 0 3 _) (sem_recv 0 3 _) (fun _ => rfl) rfl ?_
  refine step_own m ρ K c (1, 0) (by decide) (by decide) (off3_eq c).1 (devs_first1 c).1 (sem_send 1 0 _) (sem_recv 1 0 _) (fun _ => rfl) rfl ?_
  refine step_own m ρ K c (1, 1) (by decide) (by decide) (off3_eq c).2.1 (devs_first1 c).2.1 (sem_send 1 1 _) (sem_recv 1 1 _) (fun _ => rfl) rfl ?_
  refine step_own m ρ K c (1, 2) (by decide) (by decide) (off3_eq c).2.2.1 (devs_first1 c).2.2.1 (sem_send 1 2 _) (sem_recv 1 2 _) (fun _ => rfl) rfl ?_
  refine step_own m ρ K c (1, 3) (by decide) (by decide) (off3_eq c).2.2.2 (devs_first1 c).2.2.2 (sem_send 1 3 _) (sem_recv 1 3 _) (fun _ => rfl) rfl ?_
  refine step_arrive m ρ K c (2, 0) (by decide) (by decide) (sem_recv 2 0 _) ?_
  refine step_arrive m ρ K c (2, 1) (by decide) (by decide) (sem_recv 2 1 _) ?_
  refine step_part m ρ K c 2 (rowsOf 2 4 c) (off4_eq c).1 ?_
  refine step_landed m ρ K c (2, 0) (by decide) ?_
  refine step_send m ρ K c (2, 4) (by decide) (by decide) (devs_second c).1 (sem_send 2 4 _) (sem_recv 2 4 _) (sum_lead 2 _ _) ?_
  refine step_part m ρ K c 2 (rowsOf 2 5 c) (off4_eq c).2 ?_
  refine step_landed m ρ K c (2, 1) (by decide) ?_
  refine step_send m ρ K c (2, 5) (by decide) (by decide) (devs_second c).2.1 (sem_send 2 5 _) (sem_recv 2 5 _) (sum_lead 2 _ _) ?_
  refine step_arrive m ρ K c (0, 0) (by decide) (by decide) (sem_recv 0 0 _) ?_
  refine step_arrive m ρ K c (0, 1) (by decide) (by decide) (sem_recv 0 1 _) ?_
  refine step_part m ρ K c 0 (rowsOf 0 4 c) (off5_eq c).1 ?_
  refine step_landed m ρ K c (0, 0) (by decide) ?_
  refine step_send m ρ K c (0, 4) (by decide) (by decide) (devs_second c).2.2.1 (sem_send 0 4 _) (sem_recv 0 4 _) (sum_lead 0 _ _) ?_
  refine step_part m ρ K c 0 (rowsOf 0 5 c) (off5_eq c).2 ?_
  refine step_landed m ρ K c (0, 1) (by decide) ?_
  refine step_send m ρ K c (0, 5) (by decide) (by decide) (devs_second c).2.2.2.1 (sem_send 0 5 _) (sem_recv 0 5 _) (sum_lead 0 _ _) ?_
  refine step_arrive m ρ K c (1, 0) (by decide) (by decide) (sem_recv 1 0 _) ?_
  refine step_arrive m ρ K c (1, 1) (by decide) (by decide) (sem_recv 1 1 _) ?_
  refine step_part m ρ K c 1 (rowsOf 1 4 c) (off6_eq c).1 ?_
  refine step_landed m ρ K c (1, 0) (by decide) ?_
  refine step_send m ρ K c (1, 4) (by decide) (by decide) (devs_second c).2.2.2.2.1 (sem_send 1 4 _) (sem_recv 1 4 _) (sum_lead 1 _ _) ?_
  refine step_part m ρ K c 1 (rowsOf 1 5 c) (off6_eq c).2 ?_
  refine step_landed m ρ K c (1, 1) (by decide) ?_
  refine step_send m ρ K c (1, 5) (by decide) (by decide) (devs_second c).2.2.2.2.2 (sem_send 1 5 _) (sem_recv 1 5 _) (sum_lead 1 _ _) ?_
  refine step_arrive m ρ K c (2, 2) (by decide) (by decide) (sem_recv 2 2 _) ?_
  refine step_arrive m ρ K c (2, 4) (by decide) (by decide) (sem_recv 2 4 _) ?_
  refine step_part m ρ K c 2 (rowsOf 2 6 c) (off7_eq c) ?_
  refine step_landed m ρ K c (2, 2) (by decide) ?_
  refine step_landed m ρ K c (2, 4) (by decide) ?_
  refine step_send m ρ K c (2, 6) (by decide) (by decide) (devs_third c).1 (sem_send 2 6 _) (sem_recv 2 6 _) (sum_lead₂ 2 _ _ _) ?_
  refine step_arrive m ρ K c (0, 2) (by decide) (by decide) (sem_recv 0 2 _) ?_
  refine step_arrive m ρ K c (0, 4) (by decide) (by decide) (sem_recv 0 4 _) ?_
  refine step_part m ρ K c 0 (rowsOf 0 6 c) (off8_eq c) ?_
  refine step_landed m ρ K c (0, 2) (by decide) ?_
  refine step_landed m ρ K c (0, 4) (by decide) ?_
  refine step_send m ρ K c (0, 6) (by decide) (by decide) (devs_third c).2.1 (sem_send 0 6 _) (sem_recv 0 6 _) (sum_lead₂ 0 _ _ _) ?_
  refine step_arrive m ρ K c (1, 2) (by decide) (by decide) (sem_recv 1 2 _) ?_
  refine step_arrive m ρ K c (1, 4) (by decide) (by decide) (sem_recv 1 4 _) ?_
  refine step_part m ρ K c 1 (rowsOf 1 6 c) (off9_eq c) ?_
  refine step_landed m ρ K c (1, 2) (by decide) ?_
  refine step_landed m ρ K c (1, 4) (by decide) ?_
  refine step_send m ρ K c (1, 6) (by decide) (by decide) (devs_third c).2.2 (sem_send 1 6 _) (sem_recv 1 6 _) (sum_lead₂ 1 _ _ _) ?_
  refine step_arrive m ρ K c (2, 3) (by decide) (by decide) (sem_recv 2 3 _) ?_
  refine step_arrive m ρ K c (2, 5) (by decide) (by decide) (sem_recv 2 5 _) ?_
  refine step_arrive m ρ K c (2, 6) (by decide) (by decide) (sem_recv 2 6 _) ?_
  refine step_part m ρ K c 2 c (k0_off10_eq c) ?_
  refine step_landed m ρ K c (2, 3) (by decide) ?_
  refine step_landed m ρ K c (2, 5) (by decide) ?_
  refine step_landed m ρ K c (2, 6) (by decide) ?_
  refine step_out m ρ K c 2 (by decide) (act_total 2 _ _ _ _) ?_
  refine step_arrive m ρ K c (0, 3) (by decide) (by decide) (sem_recv 0 3 _) ?_
  refine step_arrive m ρ K c (0, 5) (by decide) (by decide) (sem_recv 0 5 _) ?_
  refine step_arrive m ρ K c (0, 6) (by decide) (by decide) (sem_recv 0 6 _) ?_
  refine step_part m ρ K c 0 c (k0_off11_eq c) ?_
  refine step_landed m ρ K c (0, 3) (by decide) ?_
  refine step_landed m ρ K c (0, 5) (by decide) ?_
  refine step_landed m ρ K c (0, 6) (by decide) ?_
  refine step_out m ρ K c 0 (by decide) (act_total 0 _ _ _ _) ?_
  refine step_arrive m ρ K c (1, 3) (by decide) (by decide) (sem_recv 1 3 _) ?_
  refine step_arrive m ρ K c (1, 5) (by decide) (by decide) (sem_recv 1 5 _) ?_
  refine step_arrive m ρ K c (1, 6) (by decide) (by decide) (sem_recv 1 6 _) ?_
  refine step_part m ρ K c 1 c (k0_off12_eq c) ?_
  refine step_landed m ρ K c (1, 3) (by decide) ?_
  refine step_landed m ρ K c (1, 5) (by decide) ?_
  refine step_landed m ρ K c (1, 6) (by decide) ?_
  refine step_out m ρ K c 1 (by decide) (act_total 1 _ _ _ _) ?_
  refine step_depart m ρ K c (2, 0) (by decide) (by decide) (sem_send 2 0 _) ?_
  refine step_depart m ρ K c (2, 1) (by decide) (by decide) (sem_send 2 1 _) ?_
  refine step_depart m ρ K c (2, 2) (by decide) (by decide) (sem_send 2 2 _) ?_
  refine step_depart m ρ K c (2, 3) (by decide) (by decide) (sem_send 2 3 _) ?_
  refine step_depart m ρ K c (2, 4) (by decide) (by decide) (sem_send 2 4 _) ?_
  refine step_depart m ρ K c (2, 5) (by decide) (by decide) (sem_send 2 5 _) ?_
  refine step_depart m ρ K c (2, 6) (by decide) (by decide) (sem_send 2 6 _) ?_
  refine step_depart m ρ K c (0, 0) (by decide) (by decide) (sem_send 0 0 _) ?_
  refine step_depart m ρ K c (0, 1) (by decide) (by decide) (sem_send 0 1 _) ?_
  refine step_depart m ρ K c (0, 2) (by decide) (by decide) (sem_send 0 2 _) ?_
  refine step_depart m ρ K c (0, 3) (by decide) (by decide) (sem_send 0 3 _) ?_
  refine step_depart m ρ K c (0, 4) (by decide) (by decide) (sem_send 0 4 _) ?_
  refine step_depart m ρ K c (0, 5) (by decide) (by decide) (sem_send 0 5 _) ?_
  refine step_depart m ρ K c (0, 6) (by decide) (by decide) (sem_send 0 6 _) ?_
  refine step_depart m ρ K c (1, 0) (by decide) (by decide) (sem_send 1 0 _) ?_
  refine step_depart m ρ K c (1, 1) (by decide) (by decide) (sem_send 1 1 _) ?_
  refine step_depart m ρ K c (1, 2) (by decide) (by decide) (sem_send 1 2 _) ?_
  refine step_depart m ρ K c (1, 3) (by decide) (by decide) (sem_send 1 3 _) ?_
  refine step_depart m ρ K c (1, 4) (by decide) (by decide) (sem_send 1 4 _) ?_
  refine step_depart m ρ K c (1, 5) (by decide) (by decide) (sem_send 1 5 _) ?_
  refine step_depart m ρ K c (1, 6) (by decide) (by decide) (sem_send 1 6 _) ?_
  refine (Entails.of_eq ?_).trans (h.trans (fupd_intro.trans (Entails.of_eq (wp_ret _ _ _ _ _).symm)))
  exact congr (congr (congr (congrArg (St m ρ K c (kept m ρ c)) (by decide)) (by decide)) (by decide)) (by decide)

end Cert.Exchange

end
-- ==== Proof.Run.lean ====
/-
The run of the whole kernel: the body's obligation to its pipeline, the launch, and what every final state holds.
-/
module

public import proofs.«01_k».proof.Proof.Ghost
public import proofs.«01_k».proof.Proof.Body
public import proofs.«01_k».proof.Proof.Gen.KernelIdeal.Points
public import proofs.«01_k».proof.Proof.Gen.KernelIdeal.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- There is a value of every element type. -/
instance elt_nonempty : (e : EltTy) → Nonempty (Elt F e)
  | .i1 => ⟨(0 : BitVec 1)⟩
  | .i4 => ⟨(0 : BitVec 4)⟩
  | .i8 => ⟨(0 : BitVec 8)⟩
  | .i16 => ⟨(0 : BitVec 16)⟩
  | .i32 => ⟨(0 : BitVec 32)⟩
  | .i64 => ⟨(0 : BitVec 64)⟩
  | .fp8e4m3 => ⟨(FloatOps.ofBits .fp8e4m3 0 : F .fp8e4m3)⟩
  | .fp8e5m2 => ⟨(FloatOps.ofBits .fp8e5m2 0 : F .fp8e5m2)⟩
  | .bf16 => ⟨(FloatOps.ofBits .bf16 0 : F .bf16)⟩
  | .f16 => ⟨(FloatOps.ofBits .f16 0 : F .f16)⟩
  | .f32 => ⟨(FloatOps.ofBits .f32 0 : F .f32)⟩

/-! ## The pipeline's proof data -/

/-- What a device starts from. -/
def start (c : Dev nD) : sProp 𝕄 :=
  iprop(G' m ρ c ∗ (cred (tallyAt (barCell c) () 3) ∗ bigSep Finset.univ fun t : Tr => cred (tallyAt (recvCell c t) () (cred₁ t))) ∗ levAts L lv)

def Φ₀ (c : Dev nD) : sProp 𝕄 := iprop(start m ρ c ∗ scratch c)

/-- What it ends with: its scratch buffers, and its semaphores at zero. -/
def Φ₁ (c : Dev nD) : sProp 𝕄 :=
  iprop(scratch c ∗ (bigSep Finset.univ (fun t : Tr => semVal (sendCell c t) 0) ∗ bigSep Finset.univ (fun t : Tr => semVal (recvCell c t) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev owesOf (c : Dev nD) (O : CellTallies nD τ sig Unit) : sProp 𝕄 := iprop(∃ W, owes (c : Thread nD τ) O W)

def bodyPre (c : Dev nD) : sProp 𝕄 :=
  iprop(Φ₀ m ρ c ∗ (dats m ρ 0 c).owesAt () t0_0.castSucc
    ∗ (∃ d, ownsTc c xM fullShare ((dats m ρ 0 c).before (0 : Fin 3) t0_0 d))
    ∗ (∃ d, ownsTc c wM fullShare ((dats m ρ 0 c).before (1 : Fin 3) t0_0 d))
    ∗ (∃ d, ownsTc c oM fullShare ((dats m ρ 0 c).before (2 : Fin 3) t0_0 d)))

def bodyPost (c : Dev nD) : sProp 𝕄 :=
  iprop(Φ₁ c ∗ (dats m ρ 0 c).owesAt () t0_0.succ
    ∗ ownsTc c xM fullShare (xstg m ρ c) ∗ ownsTc c wM fullShare (wstg m ρ c) ∗ ownsTc c oM fullShare (outAt m ρ c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

/-! ## The body -/

/-- Once every transfer is over, a device holds its slots and its transfers' semaphores at zero. -/
theorem sends_over (c : Dev nD) : (bigSep Finset.univ (sendSt (F := F) c Finset.univ Finset.univ) : sProp 𝕄)
    ⊢ iprop(bigSep Finset.univ (fun t : Tr => anySlot (F := F) c (sslot t)) ∗ bigSep Finset.univ (fun t : Tr => semVal (sendCell c t) 0)) := by
  rw [← bigSep_sep']
  exact Entails.of_eq (bigSep_congr fun t _ => sendSt_departed c (Finset.mem_univ t))

theorem recvs_over (c : Dev nD) : (bigSep Finset.univ (recvSt m ρ c Finset.univ) : sProp 𝕄)
    ⊢ iprop(bigSep Finset.univ (fun t : Tr => anySlot (F := F) c (rslot t)) ∗ bigSep Finset.univ (fun t : Tr => semVal (recvCell c t) 0)) := by
  rw [← bigSep_sep']
  have h (t : Tr) : recvSt m ρ c Finset.univ t ⊢ iprop(anySlot (F := F) c (rslot t) ∗ semVal (recvCell c t) 0) := by
    rw [show recvSt m ρ c Finset.univ t = arrived m ρ c t from if_pos (Finset.mem_univ t)]
    unfold arrived recvPay
    exact sep_mono_left (anySlot_intro c _ _)
  exact bigSep_mono fun t _ => h t

theorem outs_over (c : Dev nD) : (bigSep Finset.univ (outSt m ρ c Finset.univ) : sProp 𝕄) ⊢ ownsTc c oM fullShare (outAt m ρ c) :=
  (Entails.of_eq (bigSep_congr fun s _ => if_pos (Finset.mem_univ s))).trans (stored_join m ρ c)

theorem owed_univ (c : Dev nD) : owed c Finset.univ = 0 := by
  unfold owed; rw [Finset.compl_univ]; rfl

/-- The final state gives back what the pipeline expects. -/
theorem body_done (K) (c : Dev nD) :
    St m ρ K c (kept m ρ c) Finset.univ Finset.univ Finset.univ Finset.univ ⊢ bodyPost m ρ c := by
  unfold St kept bodyPost Φ₁ scratch Dat.owesAt Pipeline.owesWithin
  rw [show (dats m ρ 0 c).owed t0_0.succ = 0 from rfl, owed_univ]
  iintro ⟨-, -, ⟨Hx, Hw, HB⟩, ⟨%W, HO⟩, Hp, HS, HR, HG⟩
  ihave HS := (sends_over (F := F) c) $$ HS
  icases HS with ⟨HS, HzS⟩
  ihave HR := (recvs_over m ρ c) $$ HR
  icases HR with ⟨HR, HzR⟩
  ihave HG := (outs_over m ρ c) $$ HG
  isplitl [Hp HS HR HzS HzR HB]
  · isplitl [Hp HS HR]
    · isplitl [Hp]; · iexists (prod m ρ c); iexact Hp
      isplitl [HS] <;> iassumption
    isplitl [HzS HzR]
    · isplitl [HzS] <;> iassumption
    iexact HB
  isplitl [HO]
  · iexists W
    isplitr; · ipureintro; exact fun _ _ => Or.inl trivial
    iexact HO
  isplitl [Hx]; · iexact Hx
  isplitl [Hw]; · iexact Hw
  iexact HG

theorem bar_toks (c : Dev nD) : (bigSep Finset.univ (barTok (F := F) c) : sProp 𝕄) ⊢ iprop(barTok c 0 ∗ barTok c 1 ∗ barTok c 2) :=
  Entails.of_eq (bigSep_univ_eq_bigSepL [0, 1, 2] (by decide) (by decide) _)

/-- A device's positions: at its barrier, and at its two semaphores of each transfer. -/
theorem positions (c : Dev nD) : (bigSep Finset.univ fun i : CIx => (atPos ER (kcell (c, i)) 0 ∅ 0 : sProp 𝕄))
    = iprop(atPos ER (barCell c) 0 ∅ 0 ∗ bigSep Finset.univ (fun t : Tr => atPos ER (sendCell c t) 0 ∅ 0) ∗ bigSep Finset.univ (fun t : Tr => atPos ER (recvCell c t) 0 ∅ 0)) := by
  rw [bigSep_univ_sum, bigSep_univ_sum, bigSep_univ_of_subsingleton ()]; rfl

theorem sendGhosts (c : Dev nD) :
    iprop(bigSep Finset.univ (fun t : Tr => dutyTok ER (sendCell c t) 0 0) ∗ bigSep Finset.univ (fun t : Tr => dutyTok ER (recvCell (peer (ax t) c) t) 0 0)
      ∗ bigSep Finset.univ (fun t : Tr => atPos ER (sendCell c t) 0 ∅ 0)) ⊢ (bigSep Finset.univ (sendGhost (F := F) c) : sProp 𝕄) := by
  rw [← bigSep_sep', ← bigSep_sep']
  exact Entails.refl _

theorem awaiteds (c : Dev nD) :
    iprop(bigSep Finset.univ (fun t : Tr => cred (tallyAt (recvCell c t) () (cred₁ t))) ∗ bigSep Finset.univ (fun t : Tr => atPos ER (recvCell c t) 0 ∅ 0))
      ⊢ (bigSep Finset.univ (awaited (F := F) c) : sProp 𝕄) := by
  rw [← bigSep_sep']
  exact Entails.refl _

/-- What the pipeline hands the body is what the body starts from. -/
theorem body_start (c : Dev nD) : bodyPre m ρ c ⊢ iprop(∃ K, Begin m ρ K c) := by
  unfold bodyPre Φ₀ start G' payToks scratch Dat.owesAt Pipeline.owesWithin
  rw [show (dats m ρ 0 c).owed t0_0.castSucc = O₀ c from rfl]
  simp only [before_x, before_w]
  iintro ⟨⟨⟨⟨%K, #HR, Hat, Ht, Hs, Hv⟩, ⟨Hc, Hcr⟩, #HL⟩, HP, HS, HV⟩, ⟨%W, -, HO⟩, ⟨%dx, Hx⟩, ⟨%dw, Hw⟩, ⟨%do', Ho⟩⟩
  ihave Hat := (Entails.of_eq (positions (F := F) c)) $$ Hat
  icases Hat with ⟨HaB, HaS, HaR⟩
  iexists K
  unfold Begin
  isplitr; · iexact HR
  isplitr; · iexact HL
  isplitl [HO]; · iexists W; iexact HO
  isplitl [Ht]; · iapply (bar_toks (F := F) c); iexact Ht
  isplitl [Hc]; · iexact Hc
  isplitl [HaB]; · iexact HaB
  isplitl [Hs Hv HaS]
  · iapply (sendGhosts (F := F) c)
    isplitl [Hs]; · iexact Hs
    isplitl [Hv] <;> iassumption
  isplitl [Hcr HaR]
  · iapply (awaiteds (F := F) c)
    isplitl [Hcr] <;> iassumption
  isplitl [HS]; · iexact HS
  isplitl [HV]; · iexact HV
  isplitl [Hx]; · iexact Hx
  isplitl [Hw]; · iexact Hw
  isplitl [HP]; · iexact HP
  iapply (blank_of c _); iexact Ho

theorem body_from (c : Dev nD) : iprop(∃ K, Begin m ρ K c) ⊢ runs c (cc0_body (F := F) xM (Memref.isWhole_whole _) wM (Memref.isWhole_whole _) oM (Memref.isWhole_whole _)
      pM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _) cc0_scratch7 cc0_scratch8) (fun _ => bodyPost m ρ c) := by
  iintro ⟨%K, H⟩
  iapply (body_run m ρ K c (Q := fun _ => bodyPost m ρ c) (body_done m ρ K c))
  iexact H

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  exact (body_start m ρ c).trans (body_from m ρ c)

/-! ## The launch -/

theorem osem_csem (k : Tr ⊕ Tr) : osem k = csem (.inr k) := by cases k <;> rfl

theorem ownSemFacts : Pipeline.OwnSemFacts cfg0.spec osem where
  isScoped := by decide +kernel
  inj a b h := Sum.inr_injective (csem_injective ((osem_csem a).symm.trans (h.trans (osem_csem b))))
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_split (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, Hz, HzB⟩
  isplitl [HzB]; · iexact HzB
  isplitl [Hz]; · iexact Hz
  iapply (scratch_join (F := F) c); iexact Hr

/-- The pipeline's own waits come before everything the kernel owes. -/
theorem mayWait_stage (c : Dev nD) (q : DmaSem sig) (hq : q.val < 24) (O : CellTallies nD τ sig Unit) (hO : O = O₀ c ∨ O = 0) :
    (levAts L lv : sProp 𝕄) ⊢ MayWait (c : Thread nD τ) (.dma q) () O := by
  rcases hO with rfl | rfl
  · have hpos {g : GSem nD τ sig} {u : Unit} (hg : 0 < O₀ c g u) : 0 < lv g u ∧ u ∈ L g := by
      unfold O₀ at hg
      simp only [Pi.add_apply, Finsupp.add_apply, Nat.add_pos_iff_pos_or_pos] at hg
      have hbar (a : Fin 3) (h : 0 < (tallyAt (barCell (peer a c)) () 1 : CellTallies nD τ sig Unit) g u) : 0 < lv g u ∧ u ∈ L g := by
        rw [tallyAt_apply] at h
        by_cases hb : g = barCell (peer a c) ∧ u = ()
        · rw [hb.1]; exact ⟨Nat.one_pos, by rw [L_tc]; exact Finset.mem_singleton_self _⟩
        · rw [if_neg hb] at h; exact absurd h (Nat.lt_irrefl 0)
      rcases hg with ((h | h) | h) | h
      · obtain ⟨t, -, rfl⟩ := owed_pos h
        exact ⟨(show 0 < 2 + (phase t.2).val by omega).trans_eq (lv_recv _ t).symm, Finset.mem_singleton_self _⟩
      · exact hbar _ h
      · exact hbar _ h
      · exact hbar _ h
    refine MayOwe.of_cut (L := L) (lev := lv) 0 (fun p hp => by rw [Finset.mem_singleton.mp hp, L_tc]; exact Finset.mem_singleton_self _)
      (fun g u hg => (hpos hg).2) (fun p hp => ?_) (fun g u hg => (hpos hg).1)
    rw [Finset.mem_singleton.mp hp]; exact (if_neg (Nat.not_le.mpr hq) : lv ((c : Thread nD τ), .dma q) () = 0).le
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair execution of the kernel on its devices terminates,
    with the computed contents in every array and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold after the run what they held before it. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.Exchange

end
-- ==== Proof.Reduce.lean ====
/-
The exchange over the extended reals: a stream's columns of a device's result come from the sum, over the eight
devices, of their partial products.
-/
module

public import proofs.«01_k».proof.Proof.Slots
public import Idealize.ShloMosaic.PureOps.Ideal.Laws

@[expose] public section

noncomputable section

namespace Cert.Exchange

open Cert.KernelIdeal Cert.KernelIdeal.Gen
open Idealize.ShloMosaic Idealize.ShloMosaic.TcCoe
open scoped BigOperators

variable (m : (ℓ : Loc nD τ sig) → Buf (Elt Ideal) ℓ) (ρ : Dev nD → PrngReg)

/-- The devices whose shares reach device `c`, in the order in which a stream adds them: itself, the neighbour across the
    stream's first axis, and those across its second and third axes with their own neighbours. -/
def sources (s : Fin 3) (c : Dev nD) : Fin 8 → Dev nD :=
  ![c, peer (order s 0) c,
    peer (order s 1) c, peer (order s 0) (peer (order s 1) c),
    peer (order s 2) c, peer (order s 0) (peer (order s 2) c),
    peer (order s 1) (peer (order s 2) c), peer (order s 0) (peer (order s 1) (peer (order s 2) c))]

/-- Every device is one of them, once. -/
theorem sources_bijective : ∀ (s : Fin 3) (c : Dev nD), Function.Bijective (sources s c) := by decide +kernel

/-- The rows that a device sends in a slot are, at the end of the slot's way, the receiver's own. -/
theorem rows_reach : ∀ (s : Fin 3) (c : Dev nD),
    rowsOf s 3 (peer (order s 0) c) = c
    ∧ rowsOf s 5 (peer (order s 1) c) = c ∧ rowsOf s 1 (peer (order s 0) (peer (order s 1) c)) = c
    ∧ rowsOf s 6 (peer (order s 2) c) = c ∧ rowsOf s 2 (peer (order s 0) (peer (order s 2) c)) = c
    ∧ rowsOf s 4 (peer (order s 1) (peer (order s 2) c)) = c
    ∧ rowsOf s 0 (peer (order s 0) (peer (order s 1) (peer (order s 2) c))) = c := by decide +kernel

/-- A transfer's axis is the one its slot's phase crosses. -/
theorem ax_slots : ∀ s : Fin 3, ax (s, 3) = order s 0 ∧ ax (s, 5) = order s 1 ∧ ax (s, 6) = order s 2 := by decide

/-- The sum over the devices, in the order of a stream. -/
theorem sum_sources {M : Type} [AddCommMonoid M] (f : Dev nD → M) (s : Fin 3) (c : Dev nD) :
    ((f c + f (peer (order s 0) c)) + (f (peer (order s 1) c) + f (peer (order s 0) (peer (order s 1) c))))
      + ((f (peer (order s 2) c) + f (peer (order s 0) (peer (order s 2) c)))
        + (f (peer (order s 1) (peer (order s 2) c)) + f (peer (order s 0) (peer (order s 1) (peer (order s 2) c))))) = ∑ d, f d := by
  have h := (Equiv.ofBijective (sources s c) (sources_bijective s c)).sum_comp f
  rw [← h, Fin.sum_univ_eight]
  show _ = f c + f (peer (order s 0) c) + f (peer (order s 1) c) + f (peer (order s 0) (peer (order s 1) c))
    + f (peer (order s 2) c) + f (peer (order s 0) (peer (order s 2) c)) + f (peer (order s 1) (peer (order s 2) c))
    + f (peer (order s 0) (peer (order s 1) (peer (order s 2) c)))
  abel

/-- What a device adds up is the sum of every device's part at its rows. -/
theorem total_eq_sum (s : Fin 3) (c : Dev nD) (j : (S2 s).Idx) :
    total s (part m ρ c s c) (landed m ρ c (s, 3)) (landed m ρ c (s, 5)) (landed m ρ c (s, 6)) j
      = (∑ d, (part m ρ d s c j : EReal) : EReal) := by
  obtain ⟨r3, r5, r1, r6, r2, r4, r0⟩ := rows_reach s c
  obtain ⟨a3, a5, a6⟩ := ax_slots s
  rw [← sum_sources _ s c]
  have e3 : landed m ρ c (s, 3) = part m ρ (peer (order s 0) c) s c := by
    show own m ρ (peer (ax (s, 3)) c) s 3 = _
    rw [a3]; unfold own; rw [r3]
  have e5 : landed m ρ c (s, 5) = addf (part m ρ (peer (order s 1) c) s c) (part m ρ (peer (order s 0) (peer (order s 1) c)) s c) := by
    show second m ρ (peer (ax (s, 5)) c) s 5 1 = _
    rw [a5]; unfold second own; rw [r5, r1]
  have e6 : landed m ρ c (s, 6)
      = addf (addf (part m ρ (peer (order s 2) c) s c) (part m ρ (peer (order s 0) (peer (order s 2) c)) s c))
          (addf (part m ρ (peer (order s 1) (peer (order s 2) c)) s c)
            (part m ρ (peer (order s 0) (peer (order s 1) (peer (order s 2) c))) s c)) := by
    show third m ρ (peer (ax (s, 6)) c) s = _
    rw [a6]; unfold third second own; rw [r6, r2, r4, r0]
  rw [e3, e5, e6]
  rfl

end Cert.Exchange

end
-- ==== Proof.Product.lean ====
/-
The two products over the extended reals: a device's partial product is the sum over its 128 contracted positions, and
the whole product is the sum of the eight partial products.
-/
module

public import proofs.«01_k».proof.Proof.Reduce
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open scoped BigOperators

section Read

variable {F : FTy → Type} [FloatOps F] (m : (ℓ : Loc nD τ sig) → Buf (Elt F) ℓ) (ρ : Dev nD → PrngReg)

/-- The operand blocks that the body reads are the device's arguments. -/
theorem xstg_eq (c : Dev nD) : xstg m ρ c = m ((c : Thread nD τ).loc main_arg0) :=
  funext fun i => congrArg (m ((c : Thread nD τ).loc main_arg0)) (funext fun a => Fin.ext (by
    fin_cases a <;> exact (Nat.zero_add _).trans (Nat.one_mul _)))

theorem wstg_eq (c : Dev nD) : wstg m ρ c = m ((c : Thread nD τ).loc main_arg1) :=
  funext fun i => congrArg (m ((c : Thread nD τ).loc main_arg1)) (funext fun a => Fin.ext (by
    fin_cases a <;> exact (Nat.zero_add _).trans (Nat.one_mul _)))

/-- A device's part at another device's rows, read at an index, is its partial product there. -/
theorem part_apply (d : Dev nD) (s : Fin 3) (c : Dev nD) (j : (S2 s).Idx) :
    part m ρ d s c j = prod m ρ d ((rowsRect s c).emb j) := rfl

end Read

variable (m : (ℓ : Loc nD τ sig) → Buf (Elt Ideal) ℓ) (ρ : Dev nD → PrngReg)

/-- A device's operand blocks as arrays of extended reals. -/
abbrev xblk (c : Dev nD) : FVec Ideal S1024x128 .bf16 := m ((c : Thread nD τ).loc main_arg0)
abbrev wblk (c : Dev nD) : FVec Ideal S128x1024 .bf16 := m ((c : Thread nD τ).loc main_arg1)

/-- A device's partial product at an index. -/
theorem prod_apply (c : Dev nD) (r n : Fin 1024) :
    prod m ρ c (ix2 r n) = ∑ k : Fin 128, xblk m c (ix2 r k) * wblk m c (ix2 k n) := by
  have h := Ideal.matmul_plain_apply (M := 1024) (K := 128) (N := 1024) (φ₁ := .bf16) (φ₂ := .bf16) none (xstg m ρ c) (wstg m ρ c)
    (constant S1024x1024 .f32 0x00000000#32) r n
  rw [show (constant S1024x1024 .f32 0x00000000#32 : FVec Ideal S1024x1024 .f32) (ix2 r n) = (0 : EReal) from Ideal.ofBits_zero_f32,
    zero_add, xstg_eq, wstg_eq] at h
  rw [← h]
  unfold prod k0_pay2 k0_pay1
  simp only [shapeCast_self, xstg_eq, wstg_eq]
  rfl

/-- A sum over 1024 positions is the sum over eight runs of 128. -/
theorem sum_runs (f : Fin 1024 → EReal) :
    ∑ k, f k = ∑ d : Fin 8, ∑ k : Fin 128, f ⟨d.val * 128 + k.val, by omega⟩ := by
  rw [← Equiv.sum_comp (finProdFinEquiv (m := 8) (n := 128)) f, Fintype.sum_prod_type]
  refine Finset.sum_congr rfl fun d _ => Finset.sum_congr rfl fun k _ => congrArg f (Fin.ext ?_)
  show k.val + 128 * d.val = d.val * 128 + k.val
  omega

/-- The whole product at an index is the sum of the devices' partial products, where each device holds its block of
    columns of one operand and its block of rows of the other. -/
theorem whole_product (X W : FVec Ideal S1024x1024 .bf16)
    (hX : ∀ c : Dev nD, xblk m c = Layout.block ⟨2, ![1024, 128]⟩ ⟨2, ![1024, 1024]⟩ 1 8 c X)
    (hW : ∀ c : Dev nD, wblk m c = Layout.block ⟨2, ![128, 1024]⟩ ⟨2, ![1024, 1024]⟩ 0 8 c W)
    (r n : Fin 1024) :
    Host.dotGeneral (F := Ideal) (φ₁ := .bf16) (φ₂ := .bf16) Cert.ReferenceIdeal.dot_S1024x1024_S1024x1024_S1024x1024_1_0_0_1_n_n none X W (ix2 r n)
      = ∑ d, (prod m ρ d (ix2 r n) : Ideal .bf16) := by
  have h := StackMember.dotGeneral_plain_apply (m := 1024) (k := 1024) (n := 1024) (φ₁ := .bf16) (φ₂ := .bf16) none X W r n
  refine Eq.trans h ?_
  rw [sum_runs]
  refine Finset.sum_congr rfl fun d _ => ?_
  rw [prod_apply, hX d, hW d]
  refine Finset.sum_congr rfl fun k _ => ?_
  rw [Layout.block_apply, Layout.block_apply]
  refine congrArg₂ (fun a b => X a * W b) ?_ ?_ <;>
  · funext a; fin_cases a <;> rfl

end Cert.Exchange

end
-- ==== Proof.Value.lean ====
/-
The value of the kernel over the extended reals: a device's result is its block of the reference's.
-/
module

public import proofs.«01_k».proof.Proof.Product
public import proofs.«01_k».proof.Proof.Run

@[expose] public section

noncomputable section

namespace Cert.Exchange

open Cert.KernelIdeal Cert.KernelIdeal.Gen
open Idealize.ShloMosaic Idealize.ShloMosaic.TcCoe Idealize.ShloMosaic.ValueIdx
open Idealize.ShloMosaic.Pipeline (Dat)
open scoped BigOperators

/-! ## The result array -/

section Result

variable {F : FTy → Type} [FloatOps F] (m : (ℓ : Loc nD τ sig) → Buf (Elt F) ℓ) (ρ : Dev nD → PrngReg)

/-- The one block of the result window is the whole array. -/
theorem out_emb (t : Fin cfg0.N) (i : S128x1024.Idx) : ((cfg0.win (2 : Fin 3)).blk t).view.emb i = i :=
  funext fun a => Fin.ext (by fin_cases a <;> exact (Nat.zero_add _).trans (Nat.one_mul _))

/-- After the run the result holds what the body stored. -/
theorem finalA_out (c : Dev nD) : finalA m ρ c (2 : Fin 3) = outAt m ρ c :=
  (dats (F := F) m ρ 0 c).arrAt_eq_of_cover (2 : Fin 3) (outAt m ρ c)
    (fun t _ => funext fun i => congrArg (outAt m ρ c) (out_emb t i).symm)
    (fun i => ⟨t0_0, flush0_2 t0_0, by rw [← out_emb t0_0 i]; exact View.emb_mem_set _ i⟩)

end Result

/-! ## The activation -/

/-- The activation of one number. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The kernel's activation, which multiplies the constant first, -/
theorem act_apply (s : Fin 3) (y : FVec Ideal (S2 s) .f32) (j : (S2 s).Idx) : act s y j = gelu (y j) := by
  unfold gelu
  rw [← mul_assoc (Ideal.ofBits .f32 0x3D372713#32 : EReal) _ (y j : EReal), ← mul_assoc (Ideal.ofBits .f32 0x3D372713#32 : EReal) (y j : EReal) (y j : EReal)]
  rfl

/-- and the reference's, of the whole product. -/
def reference (X W : FVec Ideal S1024x1024 .bf16) : FVec Ideal S1024x1024 .f32 := fun i =>
  gelu (Host.dotGeneral (F := Ideal) (φ₁ := .bf16) (φ₂ := .bf16) Cert.ReferenceIdeal.dot_S1024x1024_S1024x1024_S1024x1024_1_0_0_1_n_n none X W i)

/-! ## A device's result -/

variable (m : (ℓ : Loc nD τ sig) → Buf (Elt Ideal) ℓ) (ρ : Dev nD → PrngReg)

/-- A stream's columns of a device's result are the reference's at the device's rows and those columns. -/
theorem fin_eq (X W : FVec Ideal S1024x1024 .bf16)
    (hX : ∀ c : Dev nD, xblk m c = Layout.block ⟨2, ![1024, 128]⟩ ⟨2, ![1024, 1024]⟩ 1 8 c X)
    (hW : ∀ c : Dev nD, wblk m c = Layout.block ⟨2, ![128, 1024]⟩ ⟨2, ![1024, 1024]⟩ 0 8 c W)
    (c : Dev nD) (s : Fin 3) (j : (S2 s).Idx) :
    fin m ρ c s j = reference X W ((rowsRect s c).emb j) := by
  unfold fin
  rw [act_apply, total_eq_sum]
  refine congrArg gelu ?_
  obtain ⟨r, n, h⟩ : ∃ r n : Fin 1024, (rowsRect s c).emb j = ix2 r n := ⟨_, _, eq_ix2 _⟩
  rw [h, whole_product m ρ X W hX hW]
  exact Finset.sum_congr rfl fun d _ => by rw [part_apply, h]

/-- Each device's result is its block of rows of the reference's. -/
theorem outAt_eq (X W : FVec Ideal S1024x1024 .bf16)
    (hX : ∀ c : Dev nD, xblk m c = Layout.block ⟨2, ![1024, 128]⟩ ⟨2, ![1024, 1024]⟩ 1 8 c X)
    (hW : ∀ c : Dev nD, wblk m c = Layout.block ⟨2, ![128, 1024]⟩ ⟨2, ![1024, 1024]⟩ 0 8 c W)
    (c : Dev nD) :
    outAt m ρ c = Layout.block ⟨2, ![128, 1024]⟩ ⟨2, ![1024, 1024]⟩ 0 8 c (reference X W) := by
  refine Rect.ext_of_cover outRect out_cover fun s j => ?_
  refine (outAt_emb m ρ c s j).trans ?_
  rw [Layout.block_apply]
  have e : (by decide : Layout.Tiles ⟨2, ![128, 1024]⟩ ⟨2, ![1024, 1024]⟩ 0 8).idx c ((outRect s).emb j) = (rowsRect s c).emb j := by
    funext a
    refine Fin.ext ?_
    fin_cases a
    · show c.val * 128 + (0 + 1 * (j (0 : Fin 2)).val) = 128 * c.val + 1 * (j (0 : Fin 2)).val
      omega
    · rfl
  rw [e]
  exact fin_eq m ρ X W hX hW c s j

end Cert.Exchange

end
-- ==== Proof.lean ====
/-
The claims: the kernel, its idealization and the reference run and leave their arguments as they were, the
idealization is the kernel's own text, and over the extended reals each device's result is its block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Exchange

/-- Over any floats the kernel terminates with its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- In particular over the extended reals. -/
theorem frame_ideal : Cert.quiescent_KernelIdeal := fun m ρ _ => frame_any m ρ

set_option maxRecDepth 100000 in
set_option smartUnfolding false in
/-- The kernel's text is its idealization's. -/
theorem frame_kernel : Cert.quiescent_Kernel := fun m ρ _ => frame_any (F := Bits) m ρ

/-- So does the reference, which uses no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the reference's. -/
theorem value : Cert.algebraic_KernelIdeal_ReferenceIdeal := fun m ρ m' ρ' _ h =>
  ⟨reference (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c (2 : Fin 3)).trans ((finalA_out m ρ c).trans
          (outAt_eq m ρ _ _ (fun c => (h c).1) (fun c => (h c).2) c)),
        (hr.1 c (0 : Fin 3)).trans (finalA_x m ρ c), (hr.1 c (1 : Fin 3)).trans (finalA_w m ρ c)⟩)
      (run_main m ρ),
    (θ_run Cert.ReferenceIdeal.defs _ _).mono (fun _ hr => hr 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
